-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x64x64 : Shape := ⟨3, ![16384, 64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S16384x64x64 : S_.BroadcastsInDim S16384x64x64 (![] : Fin 0 → Fin S16384x64x64.rank)
  reducesTo_S16384x64x64_S_d0_1_2 : S16384x64x64.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S16384x64x64 .f32) (main_arg1 : FVec F S64x32 .f32) (main_arg2 : FVec F S32 .f32) (main_arg3 : FVec F S32x2 .f32) (main_arg4 : FVec F S2 .f32) : IVec S_ 1 :=
  let main_v0 : FVec F S16384x64x64 .f32 := Host.absf main_arg0
  let main_cst : FVec F S_ .f32 := constant S_ .f32 0x7F800000#32
  let main_v1 : FVec F S16384x64x64 .f32 := broadcastInDim S16384x64x64 ![] bcast_S_S16384x64x64 main_cst
  let main_v2 : IVec S16384x64x64 1 := cmpf .olt main_v0 main_v1
  let main_c : IVec S_ 1 := constantI S_ 1 1#1
  let main_v3 : IVec S_ 1 := (fun x v => Host.reduce IntOp.andi x v reducesTo_S16384x64x64_S_d0_1_2 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg3
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg4 main_v13 main_v16
-- ==== Kernel.lean ====
abbrev S16384x64x64 : Shape := ⟨3, ![16384, 64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S16384x64 : Shape := ⟨2, ![16384, 64]⟩
abbrev S128x64x64 : Shape := ⟨3, ![128, 64, 64]⟩
abbrev S128x64 : Shape := ⟨2, ![128, 64]⟩
abbrev S8192x64 : Shape := ⟨2, ![8192, 64]⟩
abbrev S8192x32 : Shape := ⟨2, ![8192, 32]⟩
abbrev S1x32 : Shape := ⟨2, ![1, 32]⟩
abbrev S8192x2 : Shape := ⟨2, ![8192, 2]⟩
abbrev S1x2 : Shape := ⟨2, ![1, 2]⟩
abbrev S8192x1 : Shape := ⟨2, ![8192, 1]⟩
abbrev S8192 : Shape := ⟨1, ![8192]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x64x64, .f32⟩
  | .hbm, ⟨1, _⟩ => ⟨S64x32, .f32⟩
  | .hbm, ⟨2, _⟩ => ⟨S32, .f32⟩
  | .hbm, ⟨3, _⟩ => ⟨S32x2, .f32⟩
  | .hbm, ⟨4, _⟩ => ⟨S2, .f32⟩
  | .hbm, ⟨5, _⟩ => ⟨S16384x64, .f32⟩
  | .hbm, ⟨6, _⟩ => ⟨S16384x64, .f32⟩
  | .local _ .vmem, ⟨0, _⟩ => ⟨S128x64x64, .f32⟩
  | .local _ .vmem, ⟨1, _⟩ => ⟨S128x64x64, .f32⟩
  | .local _ .vmem, ⟨2, _⟩ => ⟨S64x32, .f32⟩
  | .local _ .vmem, ⟨3, _⟩ => ⟨S32, .f32⟩
  | .local _ .vmem, ⟨4, _⟩ => ⟨S32x2, .f32⟩
  | .local _ .vmem, ⟨5, _⟩ => ⟨S2, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | _, _ => ⟨S16384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x64x64 : Shape := ⟨3, ![16384, 64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S16384x64x32 : Shape := ⟨3, ![16384, 64, 32]⟩
abbrev S1x1x32 : Shape := ⟨3, ![1, 1, 32]⟩
abbrev S_ : Shape := ⟨0, ![]⟩
abbrev S16384x64x2 : Shape := ⟨3, ![16384, 64, 2]⟩
abbrev S1x1x2 : Shape := ⟨3, ![1, 1, 2]⟩
abbrev S16384x64 : Shape := ⟨2, ![16384, 64]⟩
abbrev S16384 : Shape := ⟨1, ![16384]⟩
abbrev S16384x1 : Shape := ⟨2, ![16384, 1]⟩
abbrev S16384x2 : Shape := ⟨2, ![16384, 2]⟩
abbrev S16384x64x1 : Shape := ⟨3, ![16384, 64, 1]⟩

abbrev nBuf : Space → Nat
  | .hbm => 99
  | .vmem => 0
  | .smem => 0
  | _ => 0

abbrev bufTy : (tb : Table) → Fin (tcTables nBuf tb) → BufTy
  | .hbm, ⟨0, _⟩ => ⟨S16384x64x64, .f32⟩
  | .hbm, ⟨1, _⟩ => ⟨S64x32, .f32⟩
  | .hbm, ⟨2, _⟩ => ⟨S32, .f32⟩
  | .hbm, ⟨3, _⟩ => ⟨S32x2, .f32⟩
  | .hbm, ⟨4, _⟩ => ⟨S2, .f32⟩
  | .hbm, ⟨5, _⟩ => ⟨S16384x64x32, .f32⟩
  | .hbm, ⟨6, _⟩ => ⟨S1x1x32, .f32⟩
  | .hbm, ⟨7, _⟩ => ⟨S16384x64x32, .f32⟩
  | .hbm, ⟨8, _⟩ => ⟨S16384x64x32, .f32⟩
  | .hbm, ⟨9, _⟩ => ⟨S_, .f32⟩
  | .hbm, ⟨10, _⟩ => ⟨S16384x64x32, .f32⟩
  | .hbm, ⟨11, _⟩ => ⟨S16384x64x32, .f32⟩
  | .hbm, ⟨12, _⟩ => ⟨S16384x64x2, .f32⟩
  | .hbm, ⟨13, _⟩ => ⟨S1x1x2, .f32⟩
  | .hbm, ⟨14, _⟩ => ⟨S16384x64x2, .f32⟩
  | .hbm, ⟨15, _⟩ => ⟨S16384x64x2, .f32⟩
  | .hbm, ⟨16, _⟩ => ⟨S16384x64x2, .i32⟩
  | .hbm, ⟨17, _⟩ => ⟨S_, .f32⟩
  | .hbm, ⟨18, _⟩ => ⟨S_, .i32⟩
  | .hbm, ⟨19, _⟩ => ⟨S16384x64, .f32⟩
  | .hbm, ⟨20, _⟩ => ⟨S16384x64, .i32⟩
  | .hbm, ⟨21, _⟩ => ⟨S_, .i32⟩
  | .hbm, ⟨22, _⟩ => ⟨S16384x64, .i32⟩
  | .hbm, ⟨23, _⟩ => ⟨S16384x64, .i1⟩
  | .hbm, ⟨24, _⟩ => ⟨S16384x64, .f32⟩
  | .hbm, ⟨25, _⟩ => ⟨S_, .f32⟩
  | .hbm, ⟨26, _⟩ => ⟨S16384x64, .f32⟩
  | .hbm, ⟨27, _⟩ => ⟨S16384x64, .i1⟩
  | .hbm, ⟨28, _⟩ => ⟨S16384x64, .i32⟩
  | .hbm, ⟨29, _⟩ => ⟨S_, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .f32⟩
  | .hbm, ⟨35, _⟩ => ⟨S16384x64, .f32⟩
  | .hbm, ⟨36, _⟩ => ⟨S16384x64, .i1⟩
  | .hbm, ⟨37, _⟩ => ⟨S16384x64, .i32⟩
  | .hbm, ⟨38, _⟩ => ⟨S_, .i1⟩
  | .hbm, ⟨39, _⟩ => ⟨S_, .i32⟩
  | .hbm, ⟨40, _⟩ => ⟨S16384, .i1⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S16384x1, .i32⟩
  | .hbm, ⟨59, _⟩ => ⟨S16384x2, .i32⟩
  | .hbm, ⟨60, _⟩ => ⟨S16384, .f32⟩
  | .hbm, ⟨61, _⟩ => ⟨S_, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S16384x1, .i32⟩
  | .hbm, ⟨80, _⟩ => ⟨S16384x1, .i32⟩
  | .hbm, ⟨81, _⟩ => ⟨S16384x2, .i32⟩
  | .hbm, ⟨82, _⟩ => ⟨S16384x64, .f32⟩
  | .hbm, ⟨83, _⟩ => ⟨S_, .f32⟩
  | .hbm, ⟨84, _⟩ => ⟨S16384x64, .f32⟩
  | .hbm, ⟨85, _⟩ => ⟨S_, .f32⟩
  | .hbm, ⟨86, _⟩ => ⟨S16384x64, .f32⟩
  | .hbm, ⟨87, _⟩ => ⟨S16384x64, .f32⟩
  | .hbm, ⟨88, _⟩ => ⟨S16384x64x1, .f32⟩
  | .hbm, ⟨89, _⟩ => ⟨S16384x64x2, .f32⟩
  | .hbm, ⟨90, _⟩ => ⟨S16384x64x2, .f32⟩
  | .hbm, ⟨91, _⟩ => ⟨S16384x64x2, .f32⟩
  | .hbm, ⟨92, _⟩ => ⟨S_, .f32⟩
  | .hbm, ⟨93, _⟩ => ⟨S16384x64, .f32⟩
  | .hbm, ⟨94, _⟩ => ⟨S16384x64x1, .f32⟩
  | .hbm, ⟨95, _⟩ => ⟨S16384x64x2, .f32⟩
  | .hbm, ⟨96, _⟩ => ⟨S16384x64x2, .f32⟩
  | .hbm, ⟨97, _⟩ => ⟨S16384x64x1, .f32⟩
  | .hbm, ⟨98, _⟩ => ⟨S16384x64, .f32⟩
  | _, _ => ⟨S16384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_cst : Ref sig .tc := ⟨.hbm, 17, rfl⟩
abbrev main_call1_c : Ref sig .tc := ⟨.hbm, 18, rfl⟩
abbrev main_call1_v1_0 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_call2_v0 : Ref sig .tc := ⟨.hbm, 37, rfl⟩
abbrev main_call2_c : Ref sig .tc := ⟨.hbm, 38, rfl⟩
abbrev main_call2_c_0 : Ref sig .tc := ⟨.hbm, 39, rfl⟩
abbrev main_call2_v1_0 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Proof.RefRun.lean ====
/-
  The reference program as a straight line of host operations, cut into seven stretches, each named after the array it
  ends in: logits, hard decision, the test that a row keeps no slot, the first slot not kept, the value written there,
  the first result, the second result.
-/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Two columns of indices side by side. -/
def beside (a b : (⟨S16384x1, .i32⟩ : BufTy).Contents (Elt F)) : (⟨S16384x2, .i32⟩ : BufTy).Contents (Elt F) :=
  concatenate S16384x2 1 [⟨S16384x1, a⟩, ⟨S16384x1, b⟩] concatenates_S16384x1_S16384x1_S16384x2_d1

/-- From the inputs to the logits, `main_v8`. -/
abbrev opsLogits : List (HloOp τ sig (Elt F)) :=
  [ binary main_arg0 main_arg1 main_v0 ((fun l r => Host.dotGeneral dot_S16384x64x64_S64x32_S16384x64x32_2_0_01_1_n_n none l r) : (⟨S16384x64x64, .f32⟩ : BufTy).Contents (Elt F) → (⟨S64x32, .f32⟩ : BufTy).Contents (Elt F) → (⟨S16384x64x32, .f32⟩ : BufTy).Contents (Elt F)),
    unary main_arg2 main_v1 (broadcastInDim S1x1x32 ![2] bcast_S32_S1x1x32_2 : (⟨S32, .f32⟩ : BufTy).Contents (Elt F) → (⟨S1x1x32, .f32⟩ : BufTy).Contents (Elt F)),
    unary main_v1 main_v2 (broadcastInDim S16384x64x32 ![0, 1, 2] bcast_S1x1x32_S16384x64x32_0_1_2 : (⟨S1x1x32, .f32⟩ : BufTy).Contents (Elt F) → (⟨S16384x64x32, .f32⟩ : BufTy).Contents (Elt F)),
    binary main_v0 main_v2 main_v3 (addf : (⟨S16384x64x32, .f32⟩ : BufTy).Contents (Elt F) → (⟨S16384x64x32, .f32⟩ : BufTy).Contents (Elt F) → (⟨S16384x64x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x64x32, .f32⟩) main_call0_v0) (broadcastInDim S16384x64x32 ![] bcast_S_S16384x64x32),
    TRef.binary (TRef.of (T := ⟨S16384x64x32, .f32⟩) main_v3) (TRef.of (T := ⟨S16384x64x32, .f32⟩) main_call0_v0) (TRef.of (T := ⟨S16384x64x32, .f32⟩) main_v4) maximumf,
    binary main_v4 main_arg3 main_v5 ((fun l r => Host.dotGeneral dot_S16384x64x32_S32x2_S16384x64x2_2_0_01_1_n_n none l r) : (⟨S16384x64x32, .f32⟩ : BufTy).Contents (Elt F) → (⟨S32x2, .f32⟩ : BufTy).Contents (Elt F) → (⟨S16384x64x2, .f32⟩ : BufTy).Contents (Elt F)),
    unary main_arg4 main_v6 (broadcastInDim S1x1x2 ![2] bcast_S2_S1x1x2_2 : (⟨S2, .f32⟩ : BufTy).Contents (Elt F) → (⟨S1x1x2, .f32⟩ : BufTy).Contents (Elt F)),
    unary main_v6 main_v7 (broadcastInDim S16384x64x2 ![0, 1, 2] bcast_S1x1x2_S16384x64x2_0_1_2 : (⟨S1x1x2, .f32⟩ : BufTy).Contents (Elt F) → (⟨S16384x64x2, .f32⟩ : BufTy).Contents (Elt F)),
    binary main_v5 main_v7 main_v8 (addf : (⟨S16384x64x2, .f32⟩ : BufTy).Contents (Elt F) → (⟨S16384x64x2, .f32⟩ : BufTy).Contents (Elt F) → (⟨S16384x64x2, .f32⟩ : BufTy).Contents (Elt F)) ]

/-- From the logits to the hard decision, `main_v12`. -/
abbrev opsDecision : List (HloOp τ sig (Elt F)) :=
  [ TRef.nullary (TRef.of (T := ⟨S16384x64x2, .i32⟩) main_call1_v0) (iotaInDim S16384x64x2 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16384x64x2, .f32⟩) main_v8) (TRef.of (T := ⟨S16384x64x2, .i32⟩) main_call1_v0) (TRef.of (T := ⟨S_, .f32⟩) main_call1_cst) (TRef.of (T := ⟨S_, .i32⟩) main_call1_c) (TRef.of (T := ⟨S16384x64, .f32⟩) main_call1_v1_0)
      (fun x y u v j => (Host.argReduce reducer_argmax_f32_i32 x y u v reducesTo_S16384x64x2_S16384x64_d2 h_S_ j).1),
    TRef.quaternary (TRef.of (T := ⟨S16384x64x2, .f32⟩) main_v8) (TRef.of (T := ⟨S16384x64x2, .i32⟩) main_call1_v0) (TRef.of (T := ⟨S_, .f32⟩) main_call1_cst) (TRef.of (T := ⟨S_, .i32⟩) main_call1_c) (TRef.of (T := ⟨S16384x64, .i32⟩) main_v9)
      (fun x y u v j => (Host.argReduce reducer_argmax_f32_i32 x y u v reducesTo_S16384x64x2_S16384x64_d2 h_S_ j).2),
    nullary main_c (constantI S_ 32 1#32),
    unary main_c main_v10 (broadcastInDim S16384x64 ![] bcast_S_S16384x64 : (⟨S_, .i32⟩ : BufTy).Contents (Elt F) → (⟨S16384x64, .i32⟩ : BufTy).Contents (Elt F)),
    binary main_v9 main_v10 main_v11 (cmpi .eq : (⟨S16384x64, .i32⟩ : BufTy).Contents (Elt F) → (⟨S16384x64, .i32⟩ : BufTy).Contents (Elt F) → (⟨S16384x64, .i1⟩ : BufTy).Contents (Elt F)),
    unary main_v11 main_v12 (uitofp .f32 : (⟨S16384x64, .i1⟩ : BufTy).Contents (Elt F) → (⟨S16384x64, .f32⟩ : BufTy).Contents (Elt F)) ]

/-- From the decision to the test that a row keeps no slot, `main_v18`. -/
abbrev opsNeed : List (HloOp τ sig (Elt F)) :=
  [ nullary main_cst (constant S_ .f32 0x00000000#32),
    unary main_cst main_v13 (broadcastInDim S16384x64 ![] bcast_S_S16384x64 : (⟨S_, .f32⟩ : BufTy).Contents (Elt F) → (⟨S16384x64, .f32⟩ : BufTy).Contents (Elt F)),
    binary main_v12 main_v13 main_v14 (cmpf .une : (⟨S16384x64, .f32⟩ : BufTy).Contents (Elt F) → (⟨S16384x64, .f32⟩ : BufTy).Contents (Elt F) → (⟨S16384x64, .i1⟩ : BufTy).Contents (Elt F)),
    unary main_v14 main_v15 ((extui 32 · natLt_1_32) : (⟨S16384x64, .i1⟩ : BufTy).Contents (Elt F) → (⟨S16384x64, .i32⟩ : BufTy).Contents (Elt F)),
    nullary main_c_0 (constantI S_ 32 0#32),
    binary main_v15 main_c_0 main_v16 ((fun x v => Host.reduce IntOp.addi x v reducesTo_S16384x64_S16384_d1 h_S_) : (⟨S16384x64, .i32⟩ : BufTy).Contents (Elt F) → (⟨S_, .i32⟩ : BufTy).Contents (Elt F) → (⟨S16384, .i32⟩ : BufTy).Contents (Elt F)),
    nullary main_c_1 (constantI S_ 32 1#32),
    unary main_c_1 main_v17 (broadcastInDim S16384 ![] bcast_S_S16384 : (⟨S_, .i32⟩ : BufTy).Contents (Elt F) → (⟨S16384, .i32⟩ : BufTy).Contents (Elt F)),
    binary main_v16 main_v17 main_v18 (cmpi .slt : (⟨S16384, .i32⟩ : BufTy).Contents (Elt F) → (⟨S16384, .i32⟩ : BufTy).Contents (Elt F) → (⟨S16384, .i1⟩ : BufTy).Contents (Elt F)) ]

/-- From the decision to the first slot of a row that is not kept, `main_v21`. -/
abbrev opsFirst : List (HloOp τ sig (Elt F)) :=
  [ nullary main_cst_2 (constant S_ .f32 0x00000000#32),
    unary main_cst_2 main_v19 (broadcastInDim S16384x64 ![] bcast_S_S16384x64 : (⟨S_, .f32⟩ : BufTy).Contents (Elt F) → (⟨S16384x64, .f32⟩ : BufTy).Contents (Elt F)),
    binary main_v12 main_v19 main_v20 (cmpf .oeq : (⟨S16384x64, .f32⟩ : BufTy).Contents (Elt F) → (⟨S16384x64, .f32⟩ : BufTy).Contents (Elt F) → (⟨S16384x64, .i1⟩ : BufTy).Contents (Elt F)),
    TRef.nullary (TRef.of (T := ⟨S16384x64, .i32⟩) main_call2_v0) (iotaInDim S16384x64 32 1),
    TRef.nullary (TRef.of (T := ⟨S_, .i1⟩) main_call2_c) (constantI S_ 1 0#1),
    TRef.nullary (TRef.of (T := ⟨S_, .i32⟩) main_call2_c_0) (constantI S_ 32 0#32),
    TRef.quaternary (TRef.of (T := ⟨S16384x64, .i1⟩) main_v20) (TRef.of (T := ⟨S16384x64, .i32⟩) main_call2_v0) (TRef.of (T := ⟨S_, .i1⟩) main_call2_c) (TRef.of (T := ⟨S_, .i32⟩) main_call2_c_0) (TRef.of (T := ⟨S16384, .i1⟩) main_call2_v1_0)
      (fun x y u v j => (Host.reduce2 reducer_argmax_i1_i32 x y u v reducesTo_S16384x64_S16384_d1 h_S_ j).1),
    TRef.quaternary (TRef.of (T := ⟨S16384x64, .i1⟩) main_v20) (TRef.of (T := ⟨S16384x64, .i32⟩) main_call2_v0) (TRef.of (T := ⟨S_, .i1⟩) main_call2_c) (TRef.of (T := ⟨S_, .i32⟩) main_call2_c_0) (TRef.of (T := ⟨S16384, .i32⟩) main_v21)
      (fun x y u v j => (Host.reduce2 reducer_argmax_i1_i32 x y u v reducesTo_S16384x64_S16384_d1 h_S_ j).2) ]

/-- The value written at that slot, `main_v37`: the one already there, or one if the row keeps no slot. -/
abbrev opsFilled : List (HloOp τ sig (Elt F)) :=
  [ nullary main_v22 (iotaInDim S16384 32 0),
    nullary main_c_3 (constantI S_ 32 0#32),
    unary main_c_3 main_v23 (broadcastInDim S16384 ![] bcast_S_S16384 : (⟨S_, .i32⟩ : BufTy).Contents (Elt F) → (⟨S16384, .i32⟩ : BufTy).Contents (Elt F)),
    binary main_v22 main_v23 main_v24 (cmpi .slt : (⟨S16384, .i32⟩ : BufTy).Contents (Elt F) → (⟨S16384, .i32⟩ : BufTy).Contents (Elt F) → (⟨S16384, .i1⟩ : BufTy).Contents (Elt F)),
    nullary main_c_4 (constantI S_ 32 16384#32),
    unary main_c_4 main_v25 (broadcastInDim S16384 ![] bcast_S_S16384 : (⟨S_, .i32⟩ : BufTy).Contents (Elt F) → (⟨S16384, .i32⟩ : BufTy).Contents (Elt F)),
    binary main_v22 main_v25 main_v26 (addi : (⟨S16384, .i32⟩ : BufTy).Contents (Elt F) → (⟨S16384, .i32⟩ : BufTy).Contents (Elt F) → (⟨S16384, .i32⟩ : BufTy).Contents (Elt F)),
    ternary main_v24 main_v26 main_v22 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_5 (constantI S_ 32 0#32),
    unary main_c_5 main_v28 (broadcastInDim S16384 ![] bcast_S_S16384 : (⟨S_, .i32⟩ : BufTy).Contents (Elt F) → (⟨S16384, .i32⟩ : BufTy).Contents (Elt F)),
    binary main_v21 main_v28 main_v29 (cmpi .slt : (⟨S16384, .i32⟩ : BufTy).Contents (Elt F) → (⟨S16384, .i32⟩ : BufTy).Contents (Elt F) → (⟨S16384, .i1⟩ : BufTy).Contents (Elt F)),
    nullary main_c_6 (constantI S_ 32 64#32),
    unary main_c_6 main_v30 (broadcastInDim S16384 ![] bcast_S_S16384 : (⟨S_, .i32⟩ : BufTy).Contents (Elt F) → (⟨S16384, .i32⟩ : BufTy).Contents (Elt F)),
    binary main_v21 main_v30 main_v31 (addi : (⟨S16384, .i32⟩ : BufTy).Contents (Elt F) → (⟨S16384, .i32⟩ : BufTy).Contents (Elt F) → (⟨S16384, .i32⟩ : BufTy).Contents (Elt F)),
    ternary main_v29 main_v31 main_v21 main_v32 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v27 main_v33 (broadcastInDim S16384x1 ![0] bcast_S16384_S16384x1_0 : (⟨S16384, .i32⟩ : BufTy).Contents (Elt F) → (⟨S16384x1, .i32⟩ : BufTy).Contents (Elt F)),
    unary main_v32 main_v34 (broadcastInDim S16384x1 ![0] bcast_S16384_S16384x1_0 : (⟨S16384, .i32⟩ : BufTy).Contents (Elt F) → (⟨S16384x1, .i32⟩ : BufTy).Contents (Elt F)),
    binary main_v33 main_v34 main_v35 (beside (F := F)),
    binary main_v12 main_v35 main_v36 ((fun x i => Host.gather gather_S16384x64_S16384x2_S16384_n_01_n_n_01_1_11 x i) : (⟨S16384x64, .f32⟩ : BufTy).Contents (Elt F) → (⟨S16384x2, .i32⟩ : BufTy).Contents (Elt F) → (⟨S16384, .f32⟩ : BufTy).Contents (Elt F)),
    nullary main_cst_7 (constant S_ .f32 0x3F800000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S16384, .f32⟩) main_call3_v1) (broadcastInDim S16384 ![] bcast_S_S16384),
    TRef.ternary (TRef.of (T := ⟨S16384, .i1⟩) main_v18) (TRef.of (T := ⟨S16384, .f32⟩) main_call3_v1) (TRef.of (T := ⟨S16384, .f32⟩) main_v36) (TRef.of (T := ⟨S16384, .f32⟩) main_v37) select ]

/-- The decision with that value written, `main_v51`: the first result. -/
abbrev opsResult : List (HloOp τ sig (Elt F)) :=
  [ nullary main_c_8 (constantI S_ 32 0#32),
    unary main_c_8 main_v38 (broadcastInDim S16384 ![] bcast_S_S16384 : (⟨S_, .i32⟩ : BufTy).Contents (Elt F) → (⟨S16384, .i32⟩ : BufTy).Contents (Elt F)),
    binary main_v22 main_v38 main_v39 (cmpi .slt : (⟨S16384, .i32⟩ : BufTy).Contents (Elt F) → (⟨S16384, .i32⟩ : BufTy).Contents (Elt F) → (⟨S16384, .i1⟩ : BufTy).Contents (Elt F)),
    nullary main_c_9 (constantI S_ 32 16384#32),
    unary main_c_9 main_v40 (broadcastInDim S16384 ![] bcast_S_S16384 : (⟨S_, .i32⟩ : BufTy).Contents (Elt F) → (⟨S16384, .i32⟩ : BufTy).Contents (Elt F)),
    binary main_v22 main_v40 main_v41 (addi : (⟨S16384, .i32⟩ : BufTy).Contents (Elt F) → (⟨S16384, .i32⟩ : BufTy).Contents (Elt F) → (⟨S16384, .i32⟩ : BufTy).Contents (Elt F)),
    ternary main_v39 main_v41 main_v22 main_v42 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_10 (constantI S_ 32 0#32),
    unary main_c_10 main_v43 (broadcastInDim S16384 ![] bcast_S_S16384 : (⟨S_, .i32⟩ : BufTy).Contents (Elt F) → (⟨S16384, .i32⟩ : BufTy).Contents (Elt F)),
    binary main_v21 main_v43 main_v44 (cmpi .slt : (⟨S16384, .i32⟩ : BufTy).Contents (Elt F) → (⟨S16384, .i32⟩ : BufTy).Contents (Elt F) → (⟨S16384, .i1⟩ : BufTy).Contents (Elt F)),
    nullary main_c_11 (constantI S_ 32 64#32),
    unary main_c_11 main_v45 (broadcastInDim S16384 ![] bcast_S_S16384 : (⟨S_, .i32⟩ : BufTy).Contents (Elt F) → (⟨S16384, .i32⟩ : BufTy).Contents (Elt F)),
    binary main_v21 main_v45 main_v46 (addi : (⟨S16384, .i32⟩ : BufTy).Contents (Elt F) → (⟨S16384, .i32⟩ : BufTy).Contents (Elt F) → (⟨S16384, .i32⟩ : BufTy).Contents (Elt F)),
    ternary main_v44 main_v46 main_v21 main_v47 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v42 main_v48 (broadcastInDim S16384x1 ![0] bcast_S16384_S16384x1_0 : (⟨S16384, .i32⟩ : BufTy).Contents (Elt F) → (⟨S16384x1, .i32⟩ : BufTy).Contents (Elt F)),
    unary main_v47 main_v49 (broadcastInDim S16384x1 ![0] bcast_S16384_S16384x1_0 : (⟨S16384, .i32⟩ : BufTy).Contents (Elt F) → (⟨S16384x1, .i32⟩ : BufTy).Contents (Elt F)),
    binary main_v48 main_v49 main_v50 (beside (F := F)),
    ternary main_v12 main_v50 main_v37 main_v51 ((fun x i u => Host.scatter scatter_S16384x64_S16384x2_S16384_n_01_01_1 (fun _ b => b) x i u) : (⟨S16384x64, .f32⟩ : BufTy).Contents (Elt F) → (⟨S16384x2, .i32⟩ : BufTy).Contents (Elt F) → (⟨S16384, .f32⟩ : BufTy).Contents (Elt F) → (⟨S16384x64, .f32⟩ : BufTy).Contents (Elt F)) ]

/-- From the logits to the probability of keeping, `main_v64`: the second result. -/
abbrev opsKeep : List (HloOp τ sig (Elt F)) :=
  [ nullary main_cst_12 (constant S_ .f32 0xFF800000#32),
    binary main_v8 main_cst_12 main_v52 ((fun x v => Host.reduce FloatOps.maximumf x v reducesTo_S16384x64x2_S16384x64_d2 h_S_) : (⟨S16384x64x2, .f32⟩ : BufTy).Contents (Elt F) → (⟨S_, .f32⟩ : BufTy).Contents (Elt F) → (⟨S16384x64, .f32⟩ : BufTy).Contents (Elt F)),
    nullary main_cst_13 (constant S_ .f32 0xFF800000#32),
    unary main_cst_13 main_v53 (broadcastInDim S16384x64 ![] bcast_S_S16384x64 : (⟨S_, .f32⟩ : BufTy).Contents (Elt F) → (⟨S16384x64, .f32⟩ : BufTy).Contents (Elt F)),
    binary main_v53 main_v52 main_v54 (maximumf : (⟨S16384x64, .f32⟩ : BufTy).Contents (Elt F) → (⟨S16384x64, .f32⟩ : BufTy).Contents (Elt F) → (⟨S16384x64, .f32⟩ : BufTy).Contents (Elt F)),
    unary main_v54 main_v55 (broadcastInDim S16384x64x1 ![0, 1] bcast_S16384x64_S16384x64x1_0_1 : (⟨S16384x64, .f32⟩ : BufTy).Contents (Elt F) → (⟨S16384x64x1, .f32⟩ : BufTy).Contents (Elt F)),
    unary main_v55 main_v56 (broadcastInDim S16384x64x2 ![0, 1, 2] bcast_S16384x64x1_S16384x64x2_0_1_2 : (⟨S16384x64x1, .f32⟩ : BufTy).Contents (Elt F) → (⟨S16384x64x2, .f32⟩ : BufTy).Contents (Elt F)),
    binary main_v8 main_v56 main_v57 (subf : (⟨S16384x64x2, .f32⟩ : BufTy).Contents (Elt F) → (⟨S16384x64x2, .f32⟩ : BufTy).Contents (Elt F) → (⟨S16384x64x2, .f32⟩ : BufTy).Contents (Elt F)),
    unary main_v57 main_v58 (Host.exp : (⟨S16384x64x2, .f32⟩ : BufTy).Contents (Elt F) → (⟨S16384x64x2, .f32⟩ : BufTy).Contents (Elt F)),
    nullary main_cst_14 (constant S_ .f32 0x00000000#32),
    binary main_v58 main_cst_14 main_v59 ((fun x v => Host.reduceAdd x v reducesTo_S16384x64x2_S16384x64_d2 h_S_) : (⟨S16384x64x2, .f32⟩ : BufTy).Contents (Elt F) → (⟨S_, .f32⟩ : BufTy).Contents (Elt F) → (⟨S16384x64, .f32⟩ : BufTy).Contents (Elt F)),
    unary main_v59 main_v60 (broadcastInDim S16384x64x1 ![0, 1] bcast_S16384x64_S16384x64x1_0_1 : (⟨S16384x64, .f32⟩ : BufTy).Contents (Elt F) → (⟨S16384x64x1, .f32⟩ : BufTy).Contents (Elt F)),
    unary main_v60 main_v61 (broadcastInDim S16384x64x2 ![0, 1, 2] bcast_S16384x64x1_S16384x64x2_0_1_2 : (⟨S16384x64x1, .f32⟩ : BufTy).Contents (Elt F) → (⟨S16384x64x2, .f32⟩ : BufTy).Contents (Elt F)),
    binary main_v58 main_v61 main_v62 (Host.divf : (⟨S16384x64x2, .f32⟩ : BufTy).Contents (Elt F) → (⟨S16384x64x2, .f32⟩ : BufTy).Contents (Elt F) → (⟨S16384x64x2, .f32⟩ : BufTy).Contents (Elt F)),
    unary main_v62 main_v63 ((extractStridedSlice S16384x64x1 ![0, 0, 1] · slices_S16384x64x2_S16384x64x1_0_0_1) : (⟨S16384x64x2, .f32⟩ : BufTy).Contents (Elt F) → (⟨S16384x64x1, .f32⟩ : BufTy).Contents (Elt F)),
    reshape main_v63 main_v64 (rfl : (.f32 : EltTy) = .f32) shapeCasts_S16384x64x1_S16384x64 ]

/-- All the operations in order. -/
abbrev ops : List (HloOp τ sig (Elt F)) :=
  opsLogits ++ (opsDecision ++ (opsNeed ++ (opsFirst ++ (opsFilled ++ (opsResult ++ opsKeep)))))

set_option maxRecDepth 8192 in
set_option maxHeartbeats 4000000 in
/-- The program is the line. -/
theorem main_eq (c : Dev nD) : main (F := F) c = seq ops := rfl

/-- The program declares no scoped buffer. -/
theorem scopedRefs_eq : (Finset.univ.filter fun b : Ref sig .tc => b.isScoped) = ∅ := by decide
/-- The program declares no scoped counter. -/
theorem scopedSems_eq : (Finset.univ.filter fun sm : SemLoc sig => sm.isScoped .tc) = ∅ := by decide

/-- The operations of `opsLogits` work on buffers of the one core. -/
theorem opsLogits_sub : (opsLogits : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The operations of `opsDecision` work on buffers of the one core. -/
theorem opsDecision_sub : (opsDecision : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., unary_bufs_sub ..⟩

/-- The operations of `opsNeed` work on buffers of the one core. -/
theorem opsNeed_sub : (opsNeed : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., binary_bufs_sub ..⟩

/-- The operations of `opsFirst` work on buffers of the one core. -/
theorem opsFirst_sub : (opsFirst : List (HloOp τ sig (Elt F))).Forall fun op => op.bufs ⊆ tcRefs τ sig :=
  ⟨nullary_bufs_sub .., unary_bufs_sub .., binary_bufs_sub .., nullary_bufs_sub .., nullary_bufs_sub .., nullary_bufs_sub .., quaternary_bufs_sub .., quaternary_bufs_sub ..⟩

/-- The operations of `opsFilled` work on buffers of the one core. -/
theorem opsFilled_sub : (opsFilled : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub ..⟩

/-- The operations of `opsResult` work on buffers of the one core. -/
theorem opsResult_sub : (opsResult : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- The operations of `opsKeep` work on buffers of the one core. -/
theorem opsKeep_sub : (opsKeep : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub ..⟩

/-- Every operation works on buffers of the one core. -/
theorem ops_sub : (ops : List (HloOp τ sig (Elt F))).Forall fun op => op.bufs ⊆ tcRefs τ sig := by
  simp only [ops, List.forall_append]
  exact ⟨opsLogits_sub, opsDecision_sub, opsNeed_sub, opsFirst_sub, opsFilled_sub, opsResult_sub, opsKeep_sub⟩

/-- Every weakly fair execution ends, each buffer holding what the line leaves in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.RefRun

end
-- ==== Proof.RefTerm.lean ====
/-
  What the reference program leaves in its buffers, stretch by stretch: each stretch of `RefRun` computes one array,
  written here as a function of the arrays it reads, and leaves the buffers that later stretches read as they were.
-/
module

public import proofs.«01_k».proof.Proof.RefRun

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The hidden layer over every slot of every row. -/
def hidden (x : FVec F S16384x64x64 .f32) (w1 : FVec F S64x32 .f32) (b1 : FVec F S32 .f32) : FVec F S16384x64x32 .f32 :=
  maximumf (addf (Host.dotGeneral dot_S16384x64x64_S64x32_S16384x64x32_2_0_01_1_n_n none x w1)
    (broadcastInDim S16384x64x32 ![0, 1, 2] bcast_S1x1x32_S16384x64x32_0_1_2 (broadcastInDim S1x1x32 ![2] bcast_S32_S1x1x32_2 b1)))
    (broadcastInDim S16384x64x32 ![] bcast_S_S16384x64x32 (constant S_ .f32 0x00000000#32))

/-- The two logits of every slot. -/
def logits (x : FVec F S16384x64x64 .f32) (w1 : FVec F S64x32 .f32) (b1 : FVec F S32 .f32) (w2 : FVec F S32x2 .f32)
    (b2 : FVec F S2 .f32) : FVec F S16384x64x2 .f32 :=
  addf (Host.dotGeneral dot_S16384x64x32_S32x2_S16384x64x2_2_0_01_1_n_n none (hidden x w1 b1) w2)
    (broadcastInDim S16384x64x2 ![0, 1, 2] bcast_S1x1x2_S16384x64x2_0_1_2 (broadcastInDim S1x1x2 ![2] bcast_S2_S1x1x2_2 b2))

/-- The larger logit's position, by the reference's fold. -/
def argmaxLogits (l : FVec F S16384x64x2 .f32) : IVec S16384x64 32 := fun j =>
  (Host.argReduce reducer_argmax_f32_i32 l (iotaInDim S16384x64x2 32 2) (constant S_ .f32 0xFF800000#32) (constantI S_ 32 0#32)
    reducesTo_S16384x64x2_S16384x64_d2 h_S_ j).2

/-- One where the second logit is the larger, zero elsewhere. -/
def decision (l : FVec F S16384x64x2 .f32) : FVec F S16384x64 .f32 :=
  uitofp .f32 (cmpi .eq (argmaxLogits l) (broadcastInDim S16384x64 ![] bcast_S_S16384x64 (constantI S_ 32 1#32)))

/-- The rows whose decision is zero in every slot. -/
def need (d : FVec F S16384x64 .f32) : IVec S16384 1 :=
  cmpi .slt
    (Host.reduce IntOp.addi (extui 32 (cmpf .une d (broadcastInDim S16384x64 ![] bcast_S_S16384x64 (constant S_ .f32 0x00000000#32))) natLt_1_32)
      (constantI S_ 32 0#32) reducesTo_S16384x64_S16384_d1 h_S_)
    (broadcastInDim S16384 ![] bcast_S_S16384 (constantI S_ 32 1#32))

/-- The first slot of each row whose decision is zero. -/
def firstZero (d : FVec F S16384x64 .f32) : IVec S16384 32 := fun j =>
  (Host.reduce2 reducer_argmax_i1_i32 (cmpf .oeq d (broadcastInDim S16384x64 ![] bcast_S_S16384x64 (constant S_ .f32 0x00000000#32)))
    (iotaInDim S16384x64 32 1) (constantI S_ 1 0#1) (constantI S_ 32 0#32) reducesTo_S16384x64_S16384_d1 h_S_ j).2

/-- An index counted from the end when it is negative. -/
def wrapped (n : BitVec 32) (i : IVec S16384 32) : IVec S16384 32 :=
  select (cmpi .slt i (broadcastInDim S16384 ![] bcast_S_S16384 (constantI S_ 32 0#32)))
    (addi i (broadcastInDim S16384 ![] bcast_S_S16384 (constantI S_ 32 n))) i

/-- The pairs (row, slot) at which the first result is changed. -/
def places (k : IVec S16384 32) : IVec S16384x2 32 :=
  beside (F := F) (broadcastInDim S16384x1 ![0] bcast_S16384_S16384x1_0 (wrapped 16384#32 (iotaInDim S16384 32 0)))
    (broadcastInDim S16384x1 ![0] bcast_S16384_S16384x1_0 (wrapped 64#32 k))

/-- The values written there. -/
def filled (d : FVec F S16384x64 .f32) (nd : IVec S16384 1) (k : IVec S16384 32) : FVec F S16384 .f32 :=
  select nd (broadcastInDim S16384 ![] bcast_S_S16384 (constant S_ .f32 0x3F800000#32))
    (Host.gather gather_S16384x64_S16384x2_S16384_n_01_n_n_01_1_11 d (places (F := F) k))

/-- The decision with these values written. -/
def result (d : FVec F S16384x64 .f32) (k : IVec S16384 32) (v : FVec F S16384 .f32) : FVec F S16384x64 .f32 :=
  Host.scatter scatter_S16384x64_S16384x2_S16384_n_01_01_1 (fun _ b => b) d (places (F := F) k) v

/-- The larger logit of each slot. -/
def top (l : FVec F S16384x64x2 .f32) : FVec F S16384x64 .f32 :=
  maximumf (broadcastInDim S16384x64 ![] bcast_S_S16384x64 (constant S_ .f32 0xFF800000#32))
    (Host.reduce FloatOps.maximumf l (constant S_ .f32 0xFF800000#32) reducesTo_S16384x64x2_S16384x64_d2 h_S_)

/-- An array over the slots, held at both logits. -/
def both (a : FVec F S16384x64 .f32) : FVec F S16384x64x2 .f32 :=
  broadcastInDim S16384x64x2 ![0, 1, 2] bcast_S16384x64x1_S16384x64x2_0_1_2
    (broadcastInDim S16384x64x1 ![0, 1] bcast_S16384x64_S16384x64x1_0_1 a)

/-- The exponentials of the logits less the larger. -/
def exps (l : FVec F S16384x64x2 .f32) : FVec F S16384x64x2 .f32 :=
  Host.exp (subf l (both (top l)))

/-- The share of the second exponential: the probability of keeping. -/
def keep (l : FVec F S16384x64x2 .f32) : FVec F S16384x64 .f32 :=
  shapeCast S16384x64 (extractStridedSlice S16384x64x1 ![0, 0, 1]
    (Host.divf (exps l) (both (Host.reduceAdd (exps l) (constant S_ .f32 0x00000000#32) reducesTo_S16384x64x2_S16384x64_d2 h_S_)))
    slices_S16384x64x2_S16384x64x1_0_0_1) shapeCasts_S16384x64x1_S16384x64

end Cert.RefRun

end
-- ==== Proof.RefRead.lean ====
/-
  Each stretch of the reference program ends in the array its name says, and leaves what later stretches read as it was;
  hence the two results of the whole line as functions of the inputs.
-/
module

public import proofs.«01_k».proof.Proof.RefTerm
public import Idealize.ShloMosaic.Lib.StableHlo.RunRead

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two stretches, the second from the contents after the first. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The first stretch ends in the logits. -/
theorem after_logits (V : Valuation τ sig (Elt F)) :
    after opsLogits V (Proc.devRef .tc main_v8)
      = logits (V (Proc.devRef .tc main_arg0)) (V (Proc.devRef .tc main_arg1)) (V (Proc.devRef .tc main_arg2))
          (V (Proc.devRef .tc main_arg3)) (V (Proc.devRef .tc main_arg4)) := by
  simp only [opsLogits, TRef.binary, TRef.nullary, TRef.ternary, TRef.unary, TRef.toBuf, TRef.ofBuf, cast_eq]
  after_results_simp <;> rfl

/-- The second stretch ends in the decision. -/
theorem after_decision (V : Valuation τ sig (Elt F)) :
    after opsDecision V (Proc.devRef .tc main_v12) = decision (V (Proc.devRef .tc main_v8)) := by
  simp only [opsDecision, TRef.quaternary, TRef.binary, TRef.nullary, TRef.ternary, TRef.unary, TRef.toBuf, TRef.ofBuf, cast_eq]
  after_results_simp <;> rfl

/-- The third stretch ends in the rows that keep no slot. -/
theorem after_need (V : Valuation τ sig (Elt F)) :
    after opsNeed V (Proc.devRef .tc main_v18) = need (V (Proc.devRef .tc main_v12)) := by
  simp only [opsNeed, TRef.quaternary, TRef.binary, TRef.nullary, TRef.ternary, TRef.unary, TRef.toBuf, TRef.ofBuf, cast_eq]
  after_results_simp <;> rfl

/-- The fourth stretch ends in the first slot not kept. -/
theorem after_first (V : Valuation τ sig (Elt F)) :
    after opsFirst V (Proc.devRef .tc main_v21) = firstZero (V (Proc.devRef .tc main_v12)) := by
  simp only [opsFirst, TRef.quaternary, TRef.binary, TRef.nullary, TRef.ternary, TRef.unary, TRef.toBuf, TRef.ofBuf, cast_eq]
  after_results_simp <;> rfl

/-- The fifth stretch ends in the values to write. -/
theorem after_filled (V : Valuation τ sig (Elt F)) :
    after opsFilled V (Proc.devRef .tc main_v37) = filled (V (Proc.devRef .tc main_v12)) (V (Proc.devRef .tc main_v18)) (V (Proc.devRef .tc main_v21)) := by
  simp only [opsFilled, TRef.quaternary, TRef.binary, TRef.nullary, TRef.ternary, TRef.unary, TRef.toBuf, TRef.ofBuf, cast_eq]
  after_results_simp <;> rfl

/-- The fifth stretch also makes the row numbers, which the sixth reads. -/
theorem after_filled_rows (V : Valuation τ sig (Elt F)) :
    after opsFilled V (Proc.devRef .tc main_v22) = iotaInDim S16384 32 0 := by
  simp only [opsFilled, TRef.quaternary, TRef.binary, TRef.nullary, TRef.ternary, TRef.unary, TRef.toBuf, TRef.ofBuf, cast_eq]
  after_results_simp <;> rfl

/-- The sixth stretch ends in the first result, given the row numbers. -/
theorem after_result (V : Valuation τ sig (Elt F)) (h : V (Proc.devRef .tc main_v22) = iotaInDim S16384 32 0) :
    after opsResult V (Proc.devRef .tc main_v51) = result (V (Proc.devRef .tc main_v12)) (V (Proc.devRef .tc main_v21)) (V (Proc.devRef .tc main_v37)) := by
  simp only [opsResult, TRef.quaternary, TRef.binary, TRef.nullary, TRef.ternary, TRef.unary, TRef.toBuf, TRef.ofBuf, cast_eq]
  after_results_simp <;> (rw [h]; rfl)

/-- The seventh stretch ends in the second result. -/
theorem after_keep (V : Valuation τ sig (Elt F)) :
    after opsKeep V (Proc.devRef .tc main_v64) = keep (V (Proc.devRef .tc main_v8)) := by
  simp only [opsKeep, TRef.quaternary, TRef.binary, TRef.nullary, TRef.ternary, TRef.unary, TRef.toBuf, TRef.ofBuf, cast_eq]
  after_results_simp <;> rfl

/-- The second stretch leaves the logits. -/
theorem decision_kept (V : Valuation τ sig (Elt F)) :
    after opsDecision V (Proc.devRef .tc main_v8) = V (Proc.devRef .tc main_v8) := by
  after_reads_simp

/-- The third stretch leaves the logits and the decision. -/
theorem need_kept (V : Valuation τ sig (Elt F)) :
    after opsNeed V (Proc.devRef .tc main_v8) = V (Proc.devRef .tc main_v8) ∧ after opsNeed V (Proc.devRef .tc main_v12) = V (Proc.devRef .tc main_v12) := by
  refine ⟨?_, ?_⟩ <;> after_reads_simp

/-- The fourth stretch leaves what the first three made. -/
theorem first_kept (V : Valuation τ sig (Elt F)) :
    after opsFirst V (Proc.devRef .tc main_v8) = V (Proc.devRef .tc main_v8) ∧ after opsFirst V (Proc.devRef .tc main_v12) = V (Proc.devRef .tc main_v12) ∧ after opsFirst V (Proc.devRef .tc main_v18) = V (Proc.devRef .tc main_v18) := by
  refine ⟨?_, ?_, ?_⟩ <;> after_reads_simp

/-- The fifth stretch leaves the logits, the decision and the slot. -/
theorem filled_kept (V : Valuation τ sig (Elt F)) :
    after opsFilled V (Proc.devRef .tc main_v8) = V (Proc.devRef .tc main_v8) ∧ after opsFilled V (Proc.devRef .tc main_v12) = V (Proc.devRef .tc main_v12) ∧ after opsFilled V (Proc.devRef .tc main_v21) = V (Proc.devRef .tc main_v21) := by
  refine ⟨?_, ?_, ?_⟩ <;> after_reads_simp

/-- The sixth stretch leaves the logits. -/
theorem result_kept (V : Valuation τ sig (Elt F)) :
    after opsResult V (Proc.devRef .tc main_v8) = V (Proc.devRef .tc main_v8) := by
  after_reads_simp

/-- The seventh stretch leaves the first result. -/
theorem keep_kept (V : Valuation τ sig (Elt F)) :
    after opsKeep V (Proc.devRef .tc main_v51) = V (Proc.devRef .tc main_v51) := by
  after_reads_simp

/-- The whole line leaves the inputs. -/
theorem ops_kept (V : Valuation τ sig (Elt F)) :
    after ops V (Proc.devRef .tc main_arg0) = V (Proc.devRef .tc main_arg0) ∧ after ops V (Proc.devRef .tc main_arg1) = V (Proc.devRef .tc main_arg1) ∧ after ops V (Proc.devRef .tc main_arg2) = V (Proc.devRef .tc main_arg2) ∧ after ops V (Proc.devRef .tc main_arg3) = V (Proc.devRef .tc main_arg3) ∧ after ops V (Proc.devRef .tc main_arg4) = V (Proc.devRef .tc main_arg4) := by
  refine ⟨?_, ?_, ?_, ?_, ?_⟩ <;> (simp only [ops, List.cons_append, List.nil_append]; after_reads_simp)

/-- What the whole line leaves in the two results' buffers. -/
theorem after_ops (V : Valuation τ sig (Elt F)) (l : FVec F S16384x64x2 .f32)
    (hl : l = logits (V (Proc.devRef .tc main_arg0)) (V (Proc.devRef .tc main_arg1)) (V (Proc.devRef .tc main_arg2))
          (V (Proc.devRef .tc main_arg3)) (V (Proc.devRef .tc main_arg4))) :
    after ops V (Proc.devRef .tc main_v51)
        = result (decision l) (firstZero (decision l)) (filled (decision l) (need (decision l)) (firstZero (decision l)))
      ∧ after ops V (Proc.devRef .tc main_v64) = keep l := by
  simp only [ops, after_two]
  constructor
  · rw [keep_kept, after_result _ (after_filled_rows _), (filled_kept _).2.1, (filled_kept _).2.2, after_filled,
      (first_kept _).2.1, (first_kept _).2.2, after_first, (need_kept _).2, after_need, after_decision, after_logits, hl]
  · rw [after_keep, result_kept, (filled_kept _).1, (first_kept _).1, (need_kept _).1, decision_kept, after_logits, hl]

end Cert.RefRun

end
-- ==== Proof.Slot.lean ====
/-
  One row of slots by itself, over the extended reals: the two scores of a slot, their gap, and the two results that
  both programs are shown to compute from the gaps of a row. Nothing here refers to a program.
-/
module

public import Idealize.ShloMosaic.PureOps.Ideal
public import Idealize.ShloMosaic.Lib.Pointwise

@[expose] public section

noncomputable section

namespace Cert.Slot

open Idealize.ShloMosaic

/-- Score `e` of a slot with features `x`: one hidden layer with negative values cut off, then a linear map. -/
def score (x : Fin 64 → EReal) (w1 : (⟨2, ![64, 32]⟩ : Shape).Idx → EReal) (b1 : (⟨1, ![32]⟩ : Shape).Idx → EReal)
    (w2 : (⟨2, ![32, 2]⟩ : Shape).Idx → EReal) (b2 : (⟨1, ![2]⟩ : Shape).Idx → EReal) (e : Fin 2) : EReal :=
  ∑ f, max (∑ d, x d * w1 (ix2 d f) + b1 (ix1 f)) 0 * w2 (ix2 f e) + b2 (ix1 e)

/-- How far the second score lies above the first. -/
def gap (x : Fin 64 → EReal) (w1 : (⟨2, ![64, 32]⟩ : Shape).Idx → EReal) (b1 : (⟨1, ![32]⟩ : Shape).Idx → EReal)
    (w2 : (⟨2, ![32, 2]⟩ : Shape).Idx → EReal) (b2 : (⟨1, ![2]⟩ : Shape).Idx → EReal) : EReal :=
  score x w1 b1 w2 b2 1 - score x w1 b1 w2 b2 0

/-- The gaps of row `i` of an array of rows of slots. -/
def gaps {n : Nat} (x : (⟨3, ![n, 64, 64]⟩ : Shape).Idx → EReal) (w1 : (⟨2, ![64, 32]⟩ : Shape).Idx → EReal)
    (b1 : (⟨1, ![32]⟩ : Shape).Idx → EReal) (w2 : (⟨2, ![32, 2]⟩ : Shape).Idx → EReal) (b2 : (⟨1, ![2]⟩ : Shape).Idx → EReal)
    (i : Fin n) (k : Fin 64) : EReal :=
  gap (fun d => x (ix3 i k d)) w1 b1 w2 b2

open Classical in
/-- The decision at slot `k` of a row with gaps `g`: one where the gap is positive, and at slot 0 of a row that has no
    positive gap. -/
def chosen (g : Fin 64 → EReal) (k : Fin 64) : EReal :=
  if 0 < g k ∨ (k = 0 ∧ ∀ j, ¬ 0 < g j) then 1 else 0

/-- An extended real that is a real number. -/
def IsReal (a : EReal) : Prop := ∃ r : ℝ, a = (r : EReal)

/-- Sums of real numbers are real numbers. -/
theorem IsReal.add {a b : EReal} : IsReal a → IsReal b → IsReal (a + b) := by
  rintro ⟨r, rfl⟩ ⟨s, rfl⟩; exact ⟨r + s, by push_cast; rfl⟩

/-- So are products, -/
theorem IsReal.mul {a b : EReal} : IsReal a → IsReal b → IsReal (a * b) := by
  rintro ⟨r, rfl⟩ ⟨s, rfl⟩; exact ⟨r * s, by push_cast; rfl⟩

/-- the larger of two, -/
theorem IsReal.max {a b : EReal} : IsReal a → IsReal b → IsReal (Max.max a b) := by
  intro ha hb
  rcases max_choice a b with h | h <;> rw [h] <;> assumption

/-- the larger of one and zero, -/
theorem IsReal.relu {a : EReal} (h : IsReal a) : IsReal (Max.max a 0) := h.max ⟨0, rfl⟩

/-- and finite sums. -/
theorem IsReal.sum {n : Nat} {f : Fin n → EReal} (h : ∀ i, IsReal (f i)) : IsReal (∑ i, f i) := by
  choose r hr using h
  exact ⟨∑ i, r i, by simp only [hr]; exact (map_sum (⟨⟨(↑·), EReal.coe_zero⟩, EReal.coe_add⟩ : ℝ →+ EReal) r _).symm⟩

/-- With real inputs a score is a real number. -/
theorem score_real {x : Fin 64 → EReal} {w1 : (⟨2, ![64, 32]⟩ : Shape).Idx → EReal} {b1 : (⟨1, ![32]⟩ : Shape).Idx → EReal}
    {w2 : (⟨2, ![32, 2]⟩ : Shape).Idx → EReal} {b2 : (⟨1, ![2]⟩ : Shape).Idx → EReal} (hx : ∀ d, IsReal (x d))
    (h1 : ∀ i, IsReal (w1 i)) (h2 : ∀ i, IsReal (b1 i)) (h3 : ∀ i, IsReal (w2 i)) (h4 : ∀ i, IsReal (b2 i)) (e : Fin 2) :
    IsReal (score x w1 b1 w2 b2 e) :=
  (IsReal.sum fun _ => (((IsReal.sum fun _ => (hx _).mul (h1 _)).add (h2 _)).relu.mul (h3 _))).add (h4 _)

/-- Of two real scores the second is the larger exactly when the gap is positive. -/
theorem lt_iff_gap_pos {a b : EReal} (ha : IsReal a) (hb : IsReal b) : a < b ↔ 0 < b - a := by
  obtain ⟨r, rfl⟩ := ha
  obtain ⟨s, rfl⟩ := hb
  rw [← EReal.coe_sub, EReal.coe_lt_coe_iff, EReal.coe_pos, sub_pos]

/-- The second share of the exponentials of two real scores, each lessened by `m`, is the logistic function of the
    gap, whatever the real number `m`. -/
theorem share_eq_logistic {a b m : EReal} (ha : IsReal a) (hb : IsReal b) (hm : IsReal m) :
    Ideal.div (Ideal.exp (b - m)) (Ideal.exp (a - m) + Ideal.exp (b - m)) = Ideal.logistic (b - a) := by
  obtain ⟨r, rfl⟩ := ha
  obtain ⟨s, rfl⟩ := hb
  obtain ⟨t, rfl⟩ := hm
  have hp : Real.exp (r - t) + Real.exp (s - t) ≠ 0 := by positivity
  rw [← EReal.coe_sub, ← EReal.coe_sub, ← EReal.coe_sub, Ideal.exp_coe, Ideal.exp_coe, ← EReal.coe_add, Ideal.div_coe hp,
    Ideal.logistic_coe, ← EReal.coe_mul, EReal.coe_eq_coe_iff]
  have e : Real.exp (r - t) = Real.exp (s - t) * Real.exp (-(s - r)) := by rw [← Real.exp_add]; congr 1; ring
  rw [e]
  have h1 := (Real.exp_pos (s - t)).ne'
  have h2 : 1 + Real.exp (-(s - r)) ≠ 0 := by positivity
  have h3 : Real.exp (s - t) * Real.exp (-(s - r)) + Real.exp (s - t) ≠ 0 := by positivity
  field_simp
  ring

/-- The pattern of minus infinity denotes the least extended real. -/
theorem minusInfinity : Ideal.ofBits .f32 0xFF800000#32 = ⊥ := by simp [Ideal.ofBits, Ideal.ieee]

/-- The larger of two scores, taken over the pair from the least extended real. -/
theorem larger (f : Fin 2 → EReal) : max ⊥ (Finset.fold max ⊥ f Finset.univ) = max (f 0) (f 1) := by
  have e : (Finset.univ : Finset (Fin 2)) = {0, 1} := rfl
  rw [e, Finset.fold_insert (by decide), Finset.fold_singleton, max_eq_right bot_le, max_eq_left (bot_le : ⊥ ≤ f 1)]

end Cert.Slot

end
-- ==== Proof.KernelBlock.lean ====
/-
  What one block of the kernel computes: from 128 rows of 64 slots, the gap of every slot, whether the slot is chosen,
  and the two arrays the block stores, each read at a row and a slot.
-/
module

public import proofs.«01_k».proof.Proof.Gen.KernelIdeal.Value
public import proofs.«01_k».proof.Proof.Slot
public import Idealize.ShloMosaic.Lib.Pointwise

@[expose] public section

set_option maxRecDepth 16384

noncomputable section

namespace Cert.KernelBlock

open Cert.KernelIdeal Cert.KernelIdeal.Gen Idealize.ShloMosaic Idealize.ShloMosaic.TcCoe Idealize.SL.Sem

/-- The difference of the two logits that the block computes at row `i` and slot `k` is the slot's gap. -/
theorem difference (x : Vec Ideal S128x64x64 .f32) (w1 : Vec Ideal S64x32 .f32) (b1 : Vec Ideal S32 .f32)
    (w2 : Vec Ideal S32x2 .f32) (b2 : Vec Ideal S2 .f32) (i : Fin 128) (k : Fin 64) :
    k0_pay3 x w1 b1 w2 b2 (ix2 i k) = Slot.gaps x w1 b1 w2 b2 i k := by
  pointwise [k0_pay3]
  rfl

/-- The largest of the marks 0 and 1 of a row, taken from the least extended real, is positive exactly when one slot
    is marked. -/
theorem any_mark (g : Fin 64 → EReal) :
    0 < Finset.fold max (Ideal.ofBits .f32 0xFF800000#32) (fun j => if 0 < g j then (1 : EReal) else 0) Finset.univ
      ↔ ∃ j, 0 < g j := by
  rw [Slot.minusInfinity, Finset.lt_fold_max]
  constructor
  · rintro (h | ⟨j, _, h⟩)
    · exact absurd h (not_lt.2 bot_le)
    · refine ⟨j, ?_⟩
      by_contra hn
      rw [if_neg hn] at h
      exact lt_irrefl _ h
  · rintro ⟨j, h⟩
    exact Or.inr ⟨j, Finset.mem_univ j, by rw [if_pos h]; exact zero_lt_one⟩

/-- The bit tests of the block on bits `a` (the slot is active), `z` (it is slot 0) and `s` (the row has an active slot). -/
theorem bits (a z s : BitVec 1) : IntOp.ori a (IntOp.andi z (IntOp.xori s 1#1)) = 1#1 ↔ a = 1#1 ∨ (z = 1#1 ∧ ¬ s = 1#1) := by
  revert a z s; decide

/-- A slot's index is zero as a word exactly when it is zero. -/
theorem slot_zero (k : Fin 64) : IntOp.cmpi .eq (BitVec.ofNat 32 k.val) 0#32 = 1#1 ↔ k = 0 := by
  revert k; decide

/-- The bit of a proposition is one exactly when the proposition holds. -/
theorem ofBool_decide (p : Prop) [Decidable p] : BitVec.ofBool (decide p) = 1#1 ↔ p := by
  by_cases h : p <;> simp [h]

/-- The bit the block computes at row `i` and slot `k` is set exactly when the slot is chosen. -/
theorem chosen_bit (x : Vec Ideal S128x64x64 .f32) (w1 : Vec Ideal S64x32 .f32) (b1 : Vec Ideal S32 .f32)
    (w2 : Vec Ideal S32x2 .f32) (b2 : Vec Ideal S2 .f32) (i : Fin 128) (k : Fin 64) :
    k0_pay4 x w1 b1 w2 b2 (ix2 i k) = 1#1
      ↔ 0 < Slot.gaps x w1 b1 w2 b2 i k ∨ (k = 0 ∧ ∀ j, ¬ 0 < Slot.gaps x w1 b1 w2 b2 i j) := by
  have e := difference x w1 b1 w2 b2 i
  unfold k0_pay4
  generalize k0_pay3 x w1 b1 w2 b2 = d at e ⊢
  pointwise
  rw [bits, ofBool_decide, ofBool_decide, slot_zero]
  simp only [e]
  rw [any_mark, not_exists]

/-- The first array the block stores: the decisions of its rows. -/
theorem stored_decision (x : Vec Ideal S128x64x64 .f32) (w1 : Vec Ideal S64x32 .f32) (b1 : Vec Ideal S32 .f32)
    (w2 : Vec Ideal S32x2 .f32) (b2 : Vec Ideal S2 .f32) (i : Fin 128) (k : Fin 64) :
    k0_pay1 (F := Ideal) (k0_pay4 x w1 b1 w2 b2) (Scalar.ofBits .f32 0x3F800000#32) (Scalar.ofBits .f32 0x00000000#32) (ix2 i k)
      = Slot.chosen (Slot.gaps x w1 b1 w2 b2 i) k := by
  have e := chosen_bit x w1 b1 w2 b2 i k
  unfold Slot.chosen
  generalize k0_pay4 x w1 b1 w2 b2 = v at e ⊢
  pointwise [k0_pay1]
  rw [← ite_congr (propext e) (fun _ => rfl) (fun _ => rfl)]
  rfl

/-- The second array the block stores: the logistic function of the gaps of its rows. -/
theorem stored_keep (x : Vec Ideal S128x64x64 .f32) (w1 : Vec Ideal S64x32 .f32) (b1 : Vec Ideal S32 .f32)
    (w2 : Vec Ideal S32x2 .f32) (b2 : Vec Ideal S2 .f32) (i : Fin 128) (k : Fin 64) :
    k0_pay2 (k0_pay3 x w1 b1 w2 b2) (ix2 i k) = Ideal.logistic (Slot.gaps x w1 b1 w2 b2 i k) := by
  rw [← difference x w1 b1 w2 b2 i k]
  rfl

end Cert.KernelBlock

end
-- ==== Proof.KernelArray.lean ====
/-
  What the kernel's two result arrays hold after its run: row by row, the decisions and the keep values of the row's
  gaps. Each grid point handles 128 rows; the 128 points together handle all 16384.
-/
module

public import proofs.«01_k».proof.Proof.KernelBlock
public import Idealize.ShloMosaic.Lib.Pipeline.Value

@[expose] public section

set_option maxRecDepth 16384

noncomputable section

namespace Cert.KernelArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block lies at a grid point: the slots' and the two results' blocks advance by 128 rows, the
    weights' blocks stay at the origin. -/
theorem block_origin : ∀ t : Fin cfg0.N,
    (win0_0.index t 0 = t.val ∧ win0_0.index t 1 = 0 ∧ win0_0.index t 2 = 0)
      ∧ (win0_1.index t 0 = 0 ∧ win0_1.index t 1 = 0) ∧ win0_2.index t 0 = 0
      ∧ (win0_3.index t 0 = 0 ∧ win0_3.index t 1 = 0) ∧ win0_4.index t 0 = 0
      ∧ (win0_5.index t 0 = t.val ∧ win0_5.index t 1 = 0) ∧ (win0_6.index t 0 = t.val ∧ win0_6.index t 1 = 0) :=
  (by decide +kernel : ∀ t : Fin grid0.N,
    (win0_0.index t 0 = t.val ∧ win0_0.index t 1 = 0 ∧ win0_0.index t 2 = 0)
      ∧ (win0_1.index t 0 = 0 ∧ win0_1.index t 1 = 0) ∧ win0_2.index t 0 = 0
      ∧ (win0_3.index t 0 = 0 ∧ win0_3.index t 1 = 0) ∧ win0_4.index t 0 = 0
      ∧ (win0_5.index t 0 = t.val ∧ win0_5.index t 1 = 0) ∧ (win0_6.index t 0 = t.val ∧ win0_6.index t 1 = 0))

/-- Row `i` of point `t`'s block is row `128 t + i` of the array. -/
def rowOf (t : Fin cfg0.N) (i : Fin 128) : Fin 16384 :=
  ⟨t.val * 128 + i.val, by have := t.isLt; have hN : cfg0.N = 128 := N_0; have := i.isLt; omega⟩

/-- The slots' block at point `t`. -/
theorem slots_block (t : Fin cfg0.N) (i : Fin 128) (k d : Fin 64) :
    (iblk m c 0 t : Vec Ideal S128x64x64 .f32) (ix3 i k d)
      = (m ((c : Thread nD τ).loc main_arg0) : FVec Ideal S16384x64x64 .f32) (ix3 (rowOf t i) k d) := by
  obtain ⟨⟨h0, h1, h2⟩, -⟩ := block_origin t
  show V m c main_arg0 (((cfg0.win 0).blk t).view.emb (ix3 i k d)) = _
  refine congrArg (V m c main_arg0) (funext fun a => Fin.ext ?_)
  match a with
  | ⟨0, _⟩ => show win0_0.index t 0 * 128 + 1 * i.val = t.val * 128 + i.val; rw [h0]; omega
  | ⟨1, _⟩ => show win0_0.index t 1 * 64 + 1 * k.val = k.val; rw [h1]; omega
  | ⟨2, _⟩ => show win0_0.index t 2 * 64 + 1 * d.val = d.val; rw [h2]; omega

/-- The first weights' block is the whole array at every point. -/
theorem w1_block (t : Fin cfg0.N) : iblk m c 1 t = (m ((c : Thread nD τ).loc main_arg1) : FVec Ideal S64x32 .f32) := by
  obtain ⟨-, ⟨h0, h1⟩, -⟩ := block_origin t
  funext y
  show V m c main_arg1 (((cfg0.win 1).blk t).view.emb y) = _
  refine congrArg (V m c main_arg1) (funext fun a => Fin.ext ?_)
  match a with
  | ⟨0, _⟩ => show win0_1.index t 0 * 64 + 1 * (y 0).val = (y 0).val; rw [h0]; omega
  | ⟨1, _⟩ => show win0_1.index t 1 * 32 + 1 * (y 1).val = (y 1).val; rw [h1]; omega

/-- The first bias's block likewise. -/
theorem b1_block (t : Fin cfg0.N) : iblk m c 2 t = (m ((c : Thread nD τ).loc main_arg2) : FVec Ideal S32 .f32) := by
  obtain ⟨-, -, h0, -⟩ := block_origin t
  funext y
  show V m c main_arg2 (((cfg0.win 2).blk t).view.emb y) = _
  refine congrArg (V m c main_arg2) (funext fun a => Fin.ext ?_)
  match a with
  | ⟨0, _⟩ => show win0_2.index t 0 * 32 + 1 * (y 0).val = (y 0).val; rw [h0]; omega

/-- The second weights' block likewise. -/
theorem w2_block (t : Fin cfg0.N) : iblk m c 3 t = (m ((c : Thread nD τ).loc main_arg3) : FVec Ideal S32x2 .f32) := by
  obtain ⟨-, -, -, ⟨h0, h1⟩, -⟩ := block_origin t
  funext y
  show V m c main_arg3 (((cfg0.win 3).blk t).view.emb y) = _
  refine congrArg (V m c main_arg3) (funext fun a => Fin.ext ?_)
  match a with
  | ⟨0, _⟩ => show win0_3.index t 0 * 32 + 1 * (y 0).val = (y 0).val; rw [h0]; omega
  | ⟨1, _⟩ => show win0_3.index t 1 * 2 + 1 * (y 1).val = (y 1).val; rw [h1]; omega

/-- The second bias's block likewise. -/
theorem b2_block (t : Fin cfg0.N) : iblk m c 4 t = (m ((c : Thread nD τ).loc main_arg4) : FVec Ideal S2 .f32) := by
  obtain ⟨-, -, -, -, h0, -⟩ := block_origin t
  funext y
  show V m c main_arg4 (((cfg0.win 4).blk t).view.emb y) = _
  refine congrArg (V m c main_arg4) (funext fun a => Fin.ext ?_)
  match a with
  | ⟨0, _⟩ => show win0_4.index t 0 * 2 + 1 * (y 0).val = (y 0).val; rw [h0]; omega

/-- The gaps of row `r` of device `c`'s slots, with its weights. -/
def rowGaps (r : Fin 16384) : Fin 64 → EReal :=
  Slot.gaps (m ((c : Thread nD τ).loc main_arg0) : FVec Ideal S16384x64x64 .f32)
    (m ((c : Thread nD τ).loc main_arg1) : FVec Ideal S64x32 .f32) (m ((c : Thread nD τ).loc main_arg2) : FVec Ideal S32 .f32)
    (m ((c : Thread nD τ).loc main_arg3) : FVec Ideal S32x2 .f32) (m ((c : Thread nD τ).loc main_arg4) : FVec Ideal S2 .f32) r

/-- The gaps that point `t` computes for row `i` of its block are those of the array's row. -/
theorem gaps_block (t : Fin cfg0.N) (i : Fin 128) :
    Slot.gaps (iblk m c 0 t : Vec Ideal S128x64x64 .f32) (m ((c : Thread nD τ).loc main_arg1) : FVec Ideal S64x32 .f32)
      (m ((c : Thread nD τ).loc main_arg2) : FVec Ideal S32 .f32) (m ((c : Thread nD τ).loc main_arg3) : FVec Ideal S32x2 .f32)
      (m ((c : Thread nD τ).loc main_arg4) : FVec Ideal S2 .f32) i = rowGaps m c (rowOf t i) := by
  funext k
  unfold rowGaps Slot.gaps
  simp only [slots_block]

/-- The decisions of every row. -/
def decisions : Buf (Elt Ideal) ((c : Thread nD τ).loc main_v0_0) :=
  fun i : S16384x64.Idx => Slot.chosen (rowGaps m c (i 0)) (i 1)

/-- The keep values of every row. -/
def keeps : Buf (Elt Ideal) ((c : Thread nD τ).loc main_v0_1) :=
  fun i : S16384x64.Idx => Ideal.logistic (rowGaps m c (i 0) (i 1))

/-- The origin of a matrix. -/
theorem zeros2 : (![0, 0] : Fin 2 → Nat) = fun _ => 0 := funext fun a => by match a with | ⟨0, _⟩ => rfl | ⟨1, _⟩ => rfl
/-- The origin of an array of three axes. -/
theorem zeros3 : (![0, 0, 0] : Fin 3 → Nat) = fun _ => 0 :=
  funext fun a => by match a with | ⟨0, _⟩ => rfl | ⟨1, _⟩ => rfl | ⟨2, _⟩ => rfl
/-- The origin of a vector. -/
theorem zeros1 : (![0] : Fin 1 → Nat) = fun _ => 0 := funext fun a => by match a with | ⟨0, _⟩ => rfl

/-- Point `t` writes back its block of the decisions. -/
theorem flushed_decisions (t : Fin cfg0.N) :
    (dats m 0 c).flushed 5 t = (win0_5.blk t).view.read (Elt Ideal) (decisions m c) := by
  rw [Value.flushed5]
  unfold out0_5
  rw [View.canon_unit_zero zeros2, View.ld_unit_zero zeros3, View.ld_unit_zero zeros2, View.ld_unit_zero zeros1,
    View.ld_unit_zero zeros2, View.ld_unit_zero zeros1, w1_block, b1_block, w2_block, b2_block]
  obtain ⟨-, -, -, -, -, ⟨h0, h1⟩, -⟩ := block_origin t
  funext y
  obtain ⟨i, k, rfl⟩ : ∃ (i : Fin 128) (k : Fin 64), y = ix2 i k := ⟨y 0, y 1, eq_ix2 y⟩
  refine (KernelBlock.stored_decision _ _ _ _ _ i k).trans ?_
  rw [gaps_block]
  show _ = decisions m c ((win0_5.blk t).view.emb (ix2 i k))
  have e : (win0_5.blk t).view.emb (ix2 i k) = (ix2 (rowOf t i) k : S16384x64.Idx) := by
    funext a
    refine Fin.ext ?_
    match a with
    | ⟨0, _⟩ => show win0_5.index t 0 * 128 + 1 * i.val = t.val * 128 + i.val; rw [h0]; omega
    | ⟨1, _⟩ => show win0_5.index t 1 * 64 + 1 * k.val = k.val; rw [h1]; omega
  rw [e]
  rfl

/-- Point `t` writes back its block of the keep values. -/
theorem flushed_keeps (t : Fin cfg0.N) :
    (dats m 0 c).flushed 6 t = (win0_6.blk t).view.read (Elt Ideal) (keeps m c) := by
  rw [Value.flushed6]
  unfold out0_6
  rw [View.canon_unit_zero zeros2, View.ld_unit_zero zeros3, View.ld_unit_zero zeros2, View.ld_unit_zero zeros1,
    View.ld_unit_zero zeros2, View.ld_unit_zero zeros1, w1_block, b1_block, w2_block, b2_block]
  obtain ⟨-, -, -, -, -, -, h0, h1⟩ := block_origin t
  funext y
  obtain ⟨i, k, rfl⟩ : ∃ (i : Fin 128) (k : Fin 64), y = ix2 i k := ⟨y 0, y 1, eq_ix2 y⟩
  refine (KernelBlock.stored_keep _ _ _ _ _ i k).trans ?_
  rw [gaps_block]
  show _ = keeps m c ((win0_6.blk t).view.emb (ix2 i k))
  have e : (win0_6.blk t).view.emb (ix2 i k) = (ix2 (rowOf t i) k : S16384x64.Idx) := by
    funext a
    refine Fin.ext ?_
    match a with
    | ⟨0, _⟩ => show win0_6.index t 0 * 128 + 1 * i.val = t.val * 128 + i.val; rw [h0]; omega
    | ⟨1, _⟩ => show win0_6.index t 1 * 64 + 1 * k.val = k.val; rw [h1]; omega
  rw [e]
  rfl

/-- The grid point that handles row `r`. -/
def pointOf (r : Fin 16384) : Fin cfg0.N := ⟨r.val / 128, by have hN : cfg0.N = 128 := N_0; have := r.isLt; omega⟩

/-- Every element of the first result lies in the block of the point that handles its row. -/
theorem cover_decisions (i : S16384x64.Idx) : ∃ t : Fin cfg0.N, (cfg0.win 5).flush t = true ∧ i ∈ ((cfg0.win 5).blk t).view.set := by
  refine ⟨pointOf (i 0), flush0_5 _, ?_⟩
  obtain ⟨-, -, -, -, -, ⟨h0, h1⟩, -⟩ := block_origin (pointOf (i 0))
  show i ∈ ((View.whole main_v0_0).slice (win0_5.rect (pointOf (i 0)))).set
  rw [View.set_slice_whole, Rect.mem_set_unit]
  have hv : (pointOf (i 0)).val = (i 0).val / 128 := rfl
  have b1 : (i 1).val < 64 := (i 1).isLt
  intro a
  match a with
  | ⟨0, _⟩ =>
    show win0_5.index (pointOf (i 0)) 0 * 128 ≤ (i 0).val ∧ (i 0).val < win0_5.index (pointOf (i 0)) 0 * 128 + 128
    rw [h0, hv]; omega
  | ⟨1, _⟩ =>
    show win0_5.index (pointOf (i 0)) 1 * 64 ≤ (i 1).val ∧ (i 1).val < win0_5.index (pointOf (i 0)) 1 * 64 + 64
    rw [h1]; omega

/-- Every element of the second result likewise. -/
theorem cover_keeps (i : S16384x64.Idx) : ∃ t : Fin cfg0.N, (cfg0.win 6).flush t = true ∧ i ∈ ((cfg0.win 6).blk t).view.set := by
  refine ⟨pointOf (i 0), flush0_6 _, ?_⟩
  obtain ⟨-, -, -, -, -, -, h0, h1⟩ := block_origin (pointOf (i 0))
  show i ∈ ((View.whole main_v0_1).slice (win0_6.rect (pointOf (i 0)))).set
  rw [View.set_slice_whole, Rect.mem_set_unit]
  have hv : (pointOf (i 0)).val = (i 0).val / 128 := rfl
  have b1 : (i 1).val < 64 := (i 1).isLt
  intro a
  match a with
  | ⟨0, _⟩ =>
    show win0_6.index (pointOf (i 0)) 0 * 128 ≤ (i 0).val ∧ (i 0).val < win0_6.index (pointOf (i 0)) 0 * 128 + 128
    rw [h0, hv]; omega
  | ⟨1, _⟩ =>
    show win0_6.index (pointOf (i 0)) 1 * 64 ≤ (i 1).val ∧ (i 1).val < win0_6.index (pointOf (i 0)) 1 * 64 + 64
    rw [h1]; omega

/-- After the run the first result array holds the decisions of every row. -/
theorem final_decisions : (dats m 0 c).arrAt 5 cfg0.N = decisions m c :=
  (dats m 0 c).arrAt_eq_of_cover 5 (decisions m c) (fun t _ => flushed_decisions m c t) cover_decisions

/-- After the run the second result array holds the keep values of every row. -/
theorem final_keeps : (dats m 0 c).arrAt 6 cfg0.N = keeps m c :=
  (dats m 0 c).arrAt_eq_of_cover 6 (keeps m c) (fun t _ => flushed_keeps m c t) cover_keeps

end Cert.KernelArray

end
-- ==== Proof.Fold.lean ====
/-
  Left folds that pick one entry of a list: the entry picked is the initial one or one of the list, and it stands
  before every entry of the list in the order the step picks by. The step of a position of the largest value is of
  this kind: of two pairs (value, position) it keeps the larger value, of equal values the smaller position.
-/
module

public import proofs.«01_k».proof.ReferenceIdeal
public import Idealize.ShloMosaic.PureOps.Ideal
public import Idealize.ShloMosaic.Lib.Pointwise

@[expose] public section

noncomputable section

namespace Cert.Fold

open Idealize.ShloMosaic

/-- A fold whose step returns one of its two operands ends at the initial entry or at an entry of the list. -/
theorem picks_one {β : Type} {f : β → β → β} (hf : ∀ a b, f a b = a ∨ f a b = b) (l : List β) (b : β) :
    l.foldl f b = b ∨ l.foldl f b ∈ l := by
  induction l generalizing b with
  | nil => exact Or.inl rfl
  | cons q l ih =>
    rw [List.foldl_cons]
    rcases ih (f b q) with h | h
    · rw [h]
      rcases hf b q with e | e
      · exact Or.inl e
      · exact Or.inr (by rw [e]; exact List.mem_cons_self)
    · exact Or.inr (List.mem_cons_of_mem _ h)

/-- A fold whose step stands before both operands ends at an entry that stands before the initial one. -/
theorem before_start {β : Type} {f : β → β → β} {D : β → β → Prop} (hr : ∀ a, D a a) (ht : ∀ a b c, D a b → D b c → D a c)
    (h1 : ∀ a b, D (f a b) a) (l : List β) (b : β) : D (l.foldl f b) b := by
  induction l generalizing b with
  | nil => exact hr b
  | cons q l ih => exact ht _ _ _ (ih (f b q)) (h1 b q)

/-- and before every entry of the list. -/
theorem before_each {β : Type} {f : β → β → β} {D : β → β → Prop} (hr : ∀ a, D a a) (ht : ∀ a b c, D a b → D b c → D a c)
    (h1 : ∀ a b, D (f a b) a) (h2 : ∀ a b, D (f a b) b) (l : List β) (b q : β) (hq : q ∈ l) : D (l.foldl f b) q := by
  induction l generalizing b with
  | nil => exact absurd hq List.not_mem_nil
  | cons p l ih =>
    rcases List.mem_cons.1 hq with rfl | hq
    · exact ht _ _ _ (before_start hr ht h1 l (f b q)) (h2 b q)
    · exact ih (f b p) hq

/-- Of two pairs the first stands before the second, values compared by a number `key` of theirs: a larger value, or an
    equal value at a position not larger. -/
def Before {α κ : Type} [LinearOrder κ] (key : α → κ) (p q : α × BitVec 32) : Prop :=
  key q.1 < key p.1 ∨ (key p.1 = key q.1 ∧ p.2.toInt ≤ q.2.toInt)

section Pick

variable {α κ : Type} [LinearOrder κ] (key : α → κ)

/-- A pair stands before itself. -/
theorem Before.refl (p : α × BitVec 32) : Before key p p := Or.inr ⟨rfl, le_refl _⟩

/-- Standing before is transitive. -/
theorem Before.trans (p q r : α × BitVec 32) : Before key p q → Before key q r → Before key p r := by
  rintro (h | ⟨h, h'⟩) (k | ⟨k, k'⟩)
  · exact Or.inl (k.trans h)
  · exact Or.inl (k ▸ h)
  · exact Or.inl (h ▸ k)
  · exact Or.inr ⟨h.trans k, h'.trans k'⟩

/-- The step in words: the first pair if its value is larger, or equal at a smaller position, else the second. -/
def pick (a b : α × BitVec 32) : α × BitVec 32 :=
  if key b.1 < key a.1 then a else if key a.1 = key b.1 ∧ a.2.toInt < b.2.toInt then a else b

/-- `pick` gives one of its two pairs. -/
theorem pick_one (a b : α × BitVec 32) : pick key a b = a ∨ pick key a b = b := by
  unfold pick; split
  · exact Or.inl rfl
  · split
    · exact Or.inl rfl
    · exact Or.inr rfl

/-- What `pick` gives stands before the first pair. -/
theorem pick_before_left (a b : α × BitVec 32) : Before key (pick key a b) a := by
  unfold pick; split
  · exact Before.refl key a
  · next h =>
    split
    · exact Before.refl key a
    · next h' =>
      rcases lt_or_eq_of_le (not_lt.1 h) with k | k
      · exact Or.inl k
      · exact Or.inr ⟨k.symm, not_lt.1 fun q => h' ⟨k, q⟩⟩

/-- What `pick` gives stands before the second pair. -/
theorem pick_before_right (a b : α × BitVec 32) : Before key (pick key a b) b := by
  unfold pick; split
  · next h => exact Or.inl h
  · split
    · next h => exact Or.inr ⟨h.1, h.2.le⟩
    · exact Before.refl key b

/-- A fold of `pick` stands before every entry of its list. -/
theorem fold_before (l : List (α × BitVec 32)) (b q : α × BitVec 32) (hq : q ∈ l) : Before key (l.foldl (pick key) b) q :=
  before_each (Before.refl key) (Before.trans key) (pick_before_left key) (pick_before_right key) l b q hq

/-- A fold of `pick` is its initial entry or one of its list. -/
theorem fold_one (l : List (α × BitVec 32)) (b : α × BitVec 32) : l.foldl (pick key) b = b ∨ l.foldl (pick key) b ∈ l :=
  picks_one (pick_one key) l b

end Pick

/-- The signed comparison of two words compares the integers they stand for. -/
theorem slt_iff (x y : BitVec 32) : IntOp.cmpi .slt x y = 1#1 ↔ x.toInt < y.toInt := by
  unfold IntOp.cmpi
  by_cases h : x.toInt < y.toInt <;> simp [BitVec.slt, h]

/-- The reference's step on a pair of logits is `pick` on the extended reals. -/
theorem logit_step (a b : EReal × BitVec 32) :
    Cert.ReferenceIdeal.reducer_argmax_f32_i32 (F := Ideal) a b = pick (fun v => v) a b := by
  have hs := slt_iff a.2 b.2
  unfold Cert.ReferenceIdeal.reducer_argmax_f32_i32 pick
  generalize IntOp.cmpi .slt a.2 b.2 = w at hs ⊢
  obtain ⟨a1, a2⟩ := a
  obtain ⟨b1, b2⟩ := b
  simp only [Ideal.cmpf_def, Ideal.cmp] at hs ⊢
  rcases BitVec.eq_zero_or_eq_one w with rfl | rfl
  · have hn : ¬ a2.toInt < b2.toInt := fun h => absurd (hs.2 h) (by decide)
    by_cases h : b1 < a1
    · have e : a1 ≠ b1 := h.ne'
      simp [h, e, Scalar.select, IntOp.ori, IntOp.andi]
    · simp [h, hn, Scalar.select, IntOp.ori, IntOp.andi]
  · have hn : a2.toInt < b2.toInt := hs.1 rfl
    by_cases h : b1 < a1
    · have e : a1 ≠ b1 := h.ne'
      simp [h, e, Scalar.select, IntOp.ori, IntOp.andi]
    · by_cases e : a1 = b1
      · simp [e, hn, Scalar.select, IntOp.ori, IntOp.andi]
      · simp [h, e, Scalar.select, IntOp.ori, IntOp.andi]

/-- The reference's step on a pair of marks is `pick` on bits. -/
theorem mark_step (a b : BitVec 1 × BitVec 32) : Cert.ReferenceIdeal.reducer_argmax_i1_i32 a b = pick BitVec.toNat a b := by
  have hs := slt_iff a.2 b.2
  unfold Cert.ReferenceIdeal.reducer_argmax_i1_i32 pick
  generalize IntOp.cmpi .slt a.2 b.2 = w at hs ⊢
  obtain ⟨a1, a2⟩ := a
  obtain ⟨b1, b2⟩ := b
  dsimp only at hs ⊢
  rcases BitVec.eq_zero_or_eq_one w with rfl | rfl
  · have hn : ¬ a2.toInt < b2.toInt := fun h => absurd (hs.2 h) (by decide)
    rcases BitVec.eq_zero_or_eq_one a1 with rfl | rfl <;> rcases BitVec.eq_zero_or_eq_one b1 with rfl | rfl <;>
      simp [hn, Scalar.select, IntOp.ori, IntOp.andi, IntOp.cmpi]
  · have hn : a2.toInt < b2.toInt := hs.1 rfl
    rcases BitVec.eq_zero_or_eq_one a1 with rfl | rfl <;> rcases BitVec.eq_zero_or_eq_one b1 with rfl | rfl <;>
      simp [hn, Scalar.select, IntOp.ori, IntOp.andi, IntOp.cmpi]

end Cert.Fold

end
-- ==== Proof.RefPick.lean ====
/-
  What a fold of two arrays by `pick` leaves: the position of a pair that stands before every pair folded over; and
  the source indices that the reference's two such folds run over.
-/
module

public import proofs.«01_k».proof.Proof.RefTerm
public import proofs.«01_k».proof.Proof.Fold

@[expose] public section

set_option maxRecDepth 16384

noncomputable section

namespace Cert.RefRun

open Cert.ReferenceIdeal Cert.ReferenceIdeal.Gen Idealize.ShloMosaic Idealize.ShloMosaic.TcCoe Idealize.SL.Sem

/-- A fold of two arrays by `pick` at a result index: its second component is that of a pair `p` which is the initial
    pair or the pair of a source index that drops to the result index, and which stands before every such pair. -/
theorem picked {α κ : Type} [LinearOrder κ] (key : α → κ) (f : α × BitVec 32 → α × BitVec 32 → α × BitVec 32)
    (hf : ∀ a b, f a b = Fold.pick key a b) {s t u : Shape} {axes : List (Fin s.rank)} (x : s.Idx → α)
    (y : s.Idx → BitVec 32) (ix : u.Idx → α) (iy : u.Idx → BitVec 32) (h : s.ReducesTo axes t) (hu : 0 < u.numel) (j : t.Idx) :
    ∃ p : α × BitVec 32, (Host.reduce2 f x y ix iy h hu j).2 = p.2
      ∧ (p = (ix (Shape.Idx.first hu), iy (Shape.Idx.first hu)) ∨ ∃ i, h.drop i = j ∧ (x i, y i) = p)
      ∧ ∀ i, h.drop i = j → Fold.Before key p (x i, y i) := by
  have hf' : f = Fold.pick key := funext fun a => funext fun b => hf a b
  refine ⟨_, rfl, ?_⟩
  rw [Host.reduce2_eq_foldl_fiber, hf']
  have hm : ∀ q, q ∈ Host.argReduceFiber x y h j ↔ ∃ i, h.drop i = j ∧ (x i, y i) = q := fun q => by
    unfold Host.argReduceFiber
    simp only [List.mem_map, List.mem_filter, List.mem_finRange, true_and, decide_eq_true_eq]
    constructor
    · rintro ⟨n, hn, e⟩
      exact ⟨_, hn, e⟩
    · rintro ⟨i, hi, e⟩
      exact ⟨s.rowMajor i, by rw [Equiv.symm_apply_apply]; exact hi, by rw [Equiv.symm_apply_apply]; exact e⟩
  exact ⟨(Fold.fold_one key _ _).imp id (hm _).1, fun i hi => Fold.fold_before key _ _ _ ((hm _).2 ⟨i, hi, rfl⟩)⟩

/-- The same of the position of a largest float, which on the extended reals is such a fold. -/
theorem picked_float (f : Ideal .f32 × BitVec 32 → Ideal .f32 × BitVec 32 → Ideal .f32 × BitVec 32)
    (hf : ∀ a b, f a b = Fold.pick (fun v : EReal => v) a b) {s t u : Shape} {axes : List (Fin s.rank)} (x : FVec Ideal s .f32)
    (y : IVec s 32) (ix : FVec Ideal u .f32) (iy : IVec u 32) (h : s.ReducesTo axes t) (hu : 0 < u.numel) (j : t.Idx) :
    ∃ p : EReal × BitVec 32, (Host.argReduce f x y ix iy h hu j).2 = p.2
      ∧ (p = (ix (Shape.Idx.first hu), iy (Shape.Idx.first hu)) ∨ ∃ i, h.drop i = j ∧ (x i, y i) = p)
      ∧ ∀ i, h.drop i = j → Fold.Before (fun v : EReal => v) p (x i, y i) := by
  rw [Ideal.argReduce_eq_reduce2]
  exact picked (fun v : EReal => v) f hf x y ix iy h hu j

/-- The source indices of the logits that drop to row `i` and slot `k` are the slot's two. -/
theorem drop_logits (i : Fin 16384) (k : Fin 64) (n : S16384x64x2.Idx) :
    reducesTo_S16384x64x2_S16384x64_d2.drop n = (ix2 i k : S16384x64.Idx) ↔ ∃ e : Fin 2, ix3 i k e = n :=
  Shape.ReducesTo.fiber_r3_a2 _ _ _

/-- The source indices of the marks that drop to row `i` are those of its slots. -/
theorem drop_marks (i : Fin 16384) (n : S16384x64.Idx) :
    reducesTo_S16384x64_S16384_d1.drop n = (ix1 i : S16384.Idx) ↔ ∃ k : Fin 64, ix2 i k = n :=
  Shape.ReducesTo.fiber_r2_a1 _ _ _

end Cert.RefRun

end
-- ==== Proof.RefLarger.lean ====
/-
  The reference's position of the larger logit, as a fold by `pick`.
-/
module

public import proofs.«01_k».proof.Proof.RefPick

@[expose] public section

set_option maxRecDepth 16384

noncomputable section

namespace Cert.RefRun

open Cert.ReferenceIdeal Cert.ReferenceIdeal.Gen Idealize.ShloMosaic Idealize.ShloMosaic.TcCoe Idealize.SL.Sem

/-- The position of the larger logit is that of a pair picked among the slot's two. -/
theorem argmaxLogits_picked (l : FVec Ideal S16384x64x2 .f32) (i : Fin 16384) (k : Fin 64) :
    ∃ p : EReal × BitVec 32, argmaxLogits l (ix2 i k) = p.2
      ∧ (p = ((constant S_ .f32 0xFF800000#32 : FVec Ideal S_ .f32) (Shape.Idx.first h_S_), (constantI S_ 32 0#32) (Shape.Idx.first h_S_))
        ∨ ∃ n, reducesTo_S16384x64x2_S16384x64_d2.drop n = (ix2 i k : S16384x64.Idx) ∧ (l n, iotaInDim S16384x64x2 32 2 n) = p)
      ∧ ∀ n, reducesTo_S16384x64x2_S16384x64_d2.drop n = (ix2 i k : S16384x64.Idx)
        → Fold.Before (fun v : EReal => v) p (l n, iotaInDim S16384x64x2 32 2 n) :=
  picked_float reducer_argmax_f32_i32 Fold.logit_step l (iotaInDim S16384x64x2 32 2)
    (constant S_ .f32 0xFF800000#32) (constantI S_ 32 0#32) reducesTo_S16384x64x2_S16384x64_d2 h_S_ (ix2 i k)

end Cert.RefRun

end
-- ==== Proof.RefFirst.lean ====
/-
  The reference's first zero of a row of decisions, as a fold by `pick`.
-/
module

public import proofs.«01_k».proof.Proof.RefPick

@[expose] public section

set_option maxRecDepth 16384

noncomputable section

namespace Cert.RefRun

open Cert.ReferenceIdeal Cert.ReferenceIdeal.Gen Idealize.ShloMosaic Idealize.ShloMosaic.TcCoe Idealize.SL.Sem

/-- The first zero of a row is the position of a pair picked among the row's. -/
theorem firstZero_picked (d : FVec Ideal S16384x64 .f32) (v : IVec S16384x64 1)
    (hv : v = cmpf .oeq d (broadcastInDim S16384x64 ![] bcast_S_S16384x64 (constant S_ .f32 0x00000000#32))) (i : Fin 16384) :
    ∃ p : BitVec 1 × BitVec 32, firstZero d (ix1 i) = p.2
      ∧ (p = ((constantI S_ 1 0#1) (Shape.Idx.first h_S_), (constantI S_ 32 0#32) (Shape.Idx.first h_S_))
        ∨ ∃ n, reducesTo_S16384x64_S16384_d1.drop n = (ix1 i : S16384.Idx) ∧ (v n, iotaInDim S16384x64 32 1 n) = p)
      ∧ ∀ n, reducesTo_S16384x64_S16384_d1.drop n = (ix1 i : S16384.Idx)
        → Fold.Before BitVec.toNat p (v n, iotaInDim S16384x64 32 1 n) := by
  subst hv
  exact picked BitVec.toNat reducer_argmax_i1_i32 Fold.mark_step _ (iotaInDim S16384x64 32 1)
    (constantI S_ 1 0#1) (constantI S_ 32 0#32) reducesTo_S16384x64_S16384_d1 h_S_ (ix1 i)

end Cert.RefRun

end
-- ==== Proof.RefDecision.lean ====
/-
  The reference's decision read at a row and a slot: the position of the larger of two logits is 1 exactly when the
  second is strictly larger; and of a row of decisions, whether all are zero and where the first zero stands.
-/
module

public import proofs.«01_k».proof.Proof.RefLarger
public import proofs.«01_k».proof.Proof.RefFirst
public import Idealize.ShloMosaic.Lib.Pointwise

@[expose] public section

set_option maxRecDepth 16384

noncomputable section

namespace Cert.RefRun

open Cert.ReferenceIdeal Cert.ReferenceIdeal.Gen Idealize.ShloMosaic Idealize.ShloMosaic.TcCoe Idealize.SL.Sem

/-- The position of the larger logit: 1 where the second is strictly larger, else 0. -/
theorem argmaxLogits_apply (l : FVec Ideal S16384x64x2 .f32) (i : Fin 16384) (k : Fin 64) :
    argmaxLogits l (ix2 i k) = if l (ix3 i k 0) < l (ix3 i k 1) then 1#32 else 0#32 := by
  obtain ⟨p, e, h, hb⟩ := argmaxLogits_picked l i k
  rw [e]
  clear e
  have h0 := hb _ ((drop_logits i k _).2 ⟨0, rfl⟩)
  have h1 := hb _ ((drop_logits i k _).2 ⟨1, rfl⟩)
  unfold Fold.Before at h0 h1
  rcases h with rfl | ⟨n, hn, rfl⟩
  · have hz : (constant S_ .f32 0xFF800000#32 : FVec Ideal S_ .f32) (Shape.Idx.first h_S_) = (⊥ : EReal) :=
      (by simp [Ideal.ofBits, Ideal.ieee] : Ideal.ofBits .f32 0xFF800000#32 = ⊥)
    have : ¬ l (ix3 i k 0) < l (ix3 i k 1) := by
      rcases h1 with h | ⟨h, -⟩
      · exact absurd (lt_of_lt_of_eq h hz) not_lt_bot
      · intro q
        exact not_lt_bot (lt_of_lt_of_eq q (h.symm.trans hz))
    rw [if_neg this]
    rfl
  · obtain ⟨e, rfl⟩ := (drop_logits i k n).1 hn
    match e with
    | ⟨0, _⟩ =>
      have : ¬ l (ix3 i k 0) < l (ix3 i k 1) := by
        rcases h1 with h | ⟨h, -⟩
        · exact lt_asymm h
        · exact fun q => absurd h q.ne
      exact (if_neg this).symm
    | ⟨1, _⟩ =>
      have : l (ix3 i k 0) < l (ix3 i k 1) := by
        rcases h0 with h | ⟨-, h⟩
        · exact h
        · exact absurd h (by show ¬ (1#32).toInt ≤ (0#32).toInt; decide)
      exact (if_pos this).symm

/-- The decision is one where the second logit is strictly larger, zero elsewhere. -/
theorem decision_apply (l : FVec Ideal S16384x64x2 .f32) (i : Fin 16384) (k : Fin 64) :
    decision l (ix2 i k) = if l (ix3 i k 0) < l (ix3 i k 1) then (1 : EReal) else 0 := by
  pointwise [decision]
  rw [argmaxLogits_apply]
  by_cases h : l (ix3 i k 0) < l (ix3 i k 1)
  · rw [if_pos h, if_pos h]
    show ((((1#1 : BitVec 1).toNat : ℝ)) : EReal) = 1
    norm_num
  · rw [if_neg h, if_neg h]
    show ((((0#1 : BitVec 1).toNat : ℝ)) : EReal) = 0
    norm_num

/-- A sum of marks as words is the number of marks. -/
theorem sum_marks {n : Nat} (b : Fin n → BitVec 1) (s : Finset (Fin n)) :
    s.fold IntOp.addi (0#32) (fun x => BitVec.setWidth 32 (b x)) = BitVec.ofNat 32 (s.filter fun x => b x = 1#1).card := by
  induction s using Finset.induction_on with
  | empty => rfl
  | insert a s ha ih =>
    rw [Finset.fold_insert ha, ih, Finset.filter_insert]
    rcases BitVec.eq_zero_or_eq_one (b a) with h | h
    · rw [if_neg (by rw [h]; decide), h]
      simp [IntOp.addi]
    · rw [if_pos h, Finset.card_insert_of_notMem fun q => ha (Finset.mem_filter.1 q).1, h]
      simp [IntOp.addi, BitVec.ofNat_add, BitVec.add_comm]

/-- The comparison of a row's number of marks with one, over the slots. -/
theorem need_eq (d : FVec Ideal S16384x64 .f32) (i : Fin 16384) :
    need d (ix1 i) = IntOp.cmpi .slt (Finset.fold IntOp.addi (0#32)
      (fun x : Fin 64 => BitVec.setWidth 32 (Ideal.cmp .une (d (ix2 i x)) 0)) Finset.univ) 1#32 := by
  pointwise [need]

/-- A row needs a slot exactly when all its decisions are zero. -/
theorem need_apply (d : FVec Ideal S16384x64 .f32) (i : Fin 16384) :
    need d (ix1 i) = 1#1 ↔ ∀ k : Fin 64, d (ix2 i k) = (0 : EReal) := by
  rw [need_eq, sum_marks, Fold.slt_iff]
  have hc : (Finset.univ.filter fun k : Fin 64 => Ideal.cmp .une (d (ix2 i k)) 0 = 1#1).card ≤ 64 :=
    (Finset.card_le_univ _).trans (by simp)
  have he : (Finset.univ.filter fun k : Fin 64 => Ideal.cmp .une (d (ix2 i k)) 0 = 1#1).card = 0
      ↔ ∀ k : Fin 64, d (ix2 i k) = (0 : EReal) := by
    rw [Finset.card_eq_zero, Finset.filter_eq_empty_iff]
    refine ⟨fun h k => ?_, fun h k _ => ?_⟩
    · by_contra hn
      exact h (Finset.mem_univ k) (by simp [Ideal.cmp, hn])
    · rw [h k]
      simp [Ideal.cmp]
  rw [← he]
  generalize (Finset.univ.filter fun k : Fin 64 => Ideal.cmp .une (d (ix2 i k)) 0 = 1#1).card = n at hc
  have : ∀ n ≤ 64, (BitVec.ofNat 32 n).toInt < (1#32).toInt ↔ n = 0 := by decide
  exact this n hc

/-- The mark of a zero decision. -/
theorem zero_mark (d : FVec Ideal S16384x64 .f32) (i : Fin 16384) (k : Fin 64) (h : d (ix2 i k) = (0 : EReal)) :
    (cmpf .oeq d (broadcastInDim S16384x64 ![] bcast_S_S16384x64 (constant S_ .f32 0x00000000#32)) : IVec S16384x64 1) (ix2 i k)
      = 1#1 := by
  pointwise
  simp [h]

/-- The first zero of a row stands at one of its slots, at slot 0 when every decision is zero. -/
theorem firstZero_apply (d : FVec Ideal S16384x64 .f32) (i : Fin 16384) :
    ∃ k : Fin 64, firstZero d (ix1 i) = BitVec.ofNat 32 k.val ∧ ((∀ j : Fin 64, d (ix2 i j) = (0 : EReal)) → k = 0) := by
  have hz := zero_mark d i 0
  obtain ⟨v, hv⟩ : ∃ v : IVec S16384x64 1,
    v = cmpf .oeq d (broadcastInDim S16384x64 ![] bcast_S_S16384x64 (constant S_ .f32 0x00000000#32)) := ⟨_, rfl⟩
  rw [← hv] at hz
  obtain ⟨p, e, h, hb⟩ := firstZero_picked d v hv i
  rw [e]
  clear e
  have h0 := hb _ ((drop_marks i _).2 ⟨0, rfl⟩)
  unfold Fold.Before at h0
  rcases h with rfl | ⟨n, hn, rfl⟩
  · exact ⟨0, rfl, fun _ => rfl⟩
  · obtain ⟨e, rfl⟩ := (drop_marks i n).1 hn
    refine ⟨e, rfl, fun h => ?_⟩
    rw [hz (h 0)] at h0
    have hle : (v (ix2 i e)).toNat < 2 := (v (ix2 i e)).isLt
    rcases h0 with q | ⟨-, q⟩
    · exact absurd q (by show ¬ 1 < _; omega)
    · have : ∀ e : Fin 64, (BitVec.ofNat 32 e.val).toInt ≤ (BitVec.ofNat 32 (0 : Fin 64).val).toInt → e = 0 := by decide
      exact this e q

end Cert.RefRun

end
-- ==== Proof.RefResult.lean ====
/-
  The reference's change of its first result: at each row, the slot of the row's first zero is written with one where
  the row needs a slot, and with what it already holds elsewhere.
-/
module

public import proofs.«01_k».proof.Proof.RefTerm
public import Idealize.ShloMosaic.Lib.Pointwise
public import Idealize.ShloMosaic.Lib.Routing.OpsPair
public import Idealize.ShloMosaic.Lib.Routing.OpsSet

@[expose] public section

set_option maxRecDepth 16384

noncomputable section

namespace Cert.RefRun

open Cert.ReferenceIdeal Cert.ReferenceIdeal.Gen Idealize.ShloMosaic Idealize.ShloMosaic.TcCoe Idealize.SL.Sem

/-- A word of a row number. -/
theorem row_word (i : Fin 16384) : (BitVec.ofNat 32 i.val).toNat = i.val ∧ (BitVec.ofNat 32 i.val).toInt = i.val := by
  have := i.isLt
  have h : (BitVec.ofNat 32 i.val).toNat = i.val := by rw [BitVec.toNat_ofNat]; omega
  exact ⟨h, by rw [BitVec.toInt_eq_toNat_of_lt (by rw [h]; omega), h]⟩

/-- A word of a slot number. -/
theorem slot_word (k : Fin 64) : (BitVec.ofNat 32 k.val).toNat = k.val ∧ (BitVec.ofNat 32 k.val).toInt = k.val :=
  row_word ⟨k.val, by have := k.isLt; omega⟩

/-- The first word of a place is its row. -/
theorem places_row (k : IVec S16384 32) (i : Fin 16384) : places (F := Ideal) k (ix2 i 0) = BitVec.ofNat 32 i.val := by
  pointwise [places, beside, wrapped]
  refine Routing.wrap_of_lt _ _ ?_
  rw [(row_word i).1]
  have := i.isLt
  omega

/-- The second word of a place is the row's slot. -/
theorem places_slot (k : IVec S16384 32) (i : Fin 16384) (j : Fin 64) (h : k (ix1 i) = BitVec.ofNat 32 j.val) :
    places (F := Ideal) k (ix2 i 1) = BitVec.ofNat 32 j.val := by
  pointwise [places, beside, wrapped]
  rw [h]
  refine Routing.wrap_of_lt _ _ ?_
  rw [(slot_word j).1]
  have := j.isLt
  omega

/-- The gather reads, for row `i`, at the two words of the row's place, each clamped into the array. -/
theorem gather_start (p : IVec S16384x2 32) (i : Fin 16384) :
    gather_S16384x64_S16384x2_S16384_n_01_n_n_01_1_11.start (ix1 i) p 0 = min (p (ix2 i 0)).toInt.toNat 16383
      ∧ gather_S16384x64_S16384x2_S16384_n_01_n_n_01_1_11.start (ix1 i) p 1 = min (p (ix2 i 1)).toInt.toNat 63 := by
  constructor <;>
  · unfold GatherDims.start
    rw [dif_pos (by decide)]
    refine congrArg (fun q => min (p q).toInt.toNat _) (funext fun b => Fin.ext ?_)
    match b with
    | ⟨0, _⟩ => rfl
    | ⟨1, _⟩ => rfl

/-- The gather at a row whose place is row `i`, slot `j`. -/
theorem gather_apply (d : FVec Ideal S16384x64 .f32) (p : IVec S16384x2 32) (i : Fin 16384) (j : Fin 64)
    (h0 : p (ix2 i 0) = BitVec.ofNat 32 i.val) (h1 : p (ix2 i 1) = BitVec.ofNat 32 j.val) :
    Host.gather gather_S16384x64_S16384x2_S16384_n_01_n_n_01_1_11 d p (ix1 i) = d (ix2 i j) := by
  unfold Host.gather
  refine congrArg d (funext fun a => Fin.ext ?_)
  have hs := gather_start p i
  rw [h0, h1, (row_word i).2, (slot_word j).2, Int.toNat_natCast, Int.toNat_natCast] at hs
  have hi := i.isLt
  have hj := j.isLt
  unfold GatherDims.operandIdx
  match a with
  | ⟨0, _⟩ =>
    show GatherDims.start _ _ _ 0 + GatherDims.batchCoord _ _ 0 + GatherDims.offCoord _ _ 0 = i.val
    rw [hs.1, GatherDims.batchCoord_eq_zero _ _ _ (by decide), GatherDims.offCoord_eq_zero _ _ _ (by decide)]
    omega
  | ⟨1, _⟩ =>
    show GatherDims.start _ _ _ 1 + GatherDims.batchCoord _ _ 1 + GatherDims.offCoord _ _ 1 = j.val
    rw [hs.2, GatherDims.batchCoord_eq_zero _ _ _ (by decide), GatherDims.offCoord_eq_zero _ _ _ (by decide)]
    omega

/-- The value written at a row: one where the row needs a slot, else what the slot holds. -/
theorem filled_apply (d : FVec Ideal S16384x64 .f32) (nd : IVec S16384 1) (k : IVec S16384 32) (i : Fin 16384) (j : Fin 64)
    (h : k (ix1 i) = BitVec.ofNat 32 j.val) :
    filled d nd k (ix1 i) = if nd (ix1 i) = 1#1 then (1 : EReal) else d (ix2 i j) := by
  pointwise [filled]
  rw [gather_apply d _ i j (places_row k i) (places_slot k i j h)]
  rfl

/-- The update of row `b` starts at the two words of the row's place. -/
theorem scatter_start (p : IVec S16384x2 32) (b : Fin 16384) :
    scatter_S16384x64_S16384x2_S16384_n_01_01_1.start (ix1 b) p 0 = (p (ix2 b 0)).toInt
      ∧ scatter_S16384x64_S16384x2_S16384_n_01_01_1.start (ix1 b) p 1 = (p (ix2 b 1)).toInt := by
  constructor <;>
  · unfold ScatterDims.start
    rw [dif_pos (by decide)]
    refine congrArg (fun q => (p q).toInt) (funext fun a => Fin.ext ?_)
    match a with
    | ⟨0, _⟩ => rfl
    | ⟨1, _⟩ => rfl

/-- The update of row `b` lands at row `i`, slot `k` exactly when `b = i` and `k` is the row's slot. -/
theorem scatter_lands (p : IVec S16384x2 32) (b i : Fin 16384) (j k : Fin 64)
    (h0 : p (ix2 b 0) = BitVec.ofNat 32 b.val) (h1 : p (ix2 b 1) = BitVec.ofNat 32 j.val) :
    scatter_S16384x64_S16384x2_S16384_n_01_01_1.resultIdx? (ix1 b) p = some (ix2 i k) ↔ b = i ∧ j = k := by
  refine (Routing.resultIdx?_ix2 (R := 16384) (C := 64) scatter_S16384x64_S16384x2_S16384_n_01_01_1 _ _ _ _).trans ?_
  rw [(scatter_start p b).1, (scatter_start p b).2, h0, h1, (row_word b).2, (slot_word j).2]
  show (b.val : Int) + ((0 : Nat) : Int) = i.val ∧ (j.val : Int) + ((0 : Nat) : Int) = k.val ↔ _
  rw [Fin.ext_iff, Fin.ext_iff]
  omega

/-- The changed decision at row `i`, slot `k`, where `j` gives each row's slot. -/
theorem result_apply (d : FVec Ideal S16384x64 .f32) (nd : IVec S16384 1) (f : IVec S16384 32) (j : Fin 16384 → Fin 64)
    (h : ∀ i, f (ix1 i) = BitVec.ofNat 32 (j i).val) (i : Fin 16384) (k : Fin 64) :
    result d f (filled d nd f) (ix2 i k) = if nd (ix1 i) = 1#1 ∧ j i = k then (1 : EReal) else d (ix2 i k) := by
  have lands : ∀ n : S16384.Idx, scatter_S16384x64_S16384x2_S16384_n_01_01_1.resultIdx? n (places (F := Ideal) f) = some (ix2 i k)
      ↔ n = ix1 i ∧ j i = k := fun n => by
    obtain ⟨b, rfl⟩ : ∃ b : Fin 16384, n = ix1 b := ⟨n 0, eq_ix1 n⟩
    rw [scatter_lands _ b i (j b) k (places_row f b) (places_slot f b (j b) (h b))]
    constructor
    · rintro ⟨rfl, e⟩; exact ⟨rfl, e⟩
    · rintro ⟨e, q⟩
      have : b = i := congrFun e 0
      subst this
      exact ⟨rfl, q⟩
  unfold result
  by_cases e : j i = k
  · rw [Routing.scatter_set_hit _ _ _ _ _ (filled d nd f (ix1 i)) (fun n hn => by rw [((lands n).1 hn).1]) _ ((lands _).2 ⟨rfl, e⟩),
      filled_apply d nd f i (j i) (h i), e]
    simp only [and_true]
  · rw [Routing.scatter_set_miss _ _ _ _ _ fun n hn => e ((lands n).1 hn).2, if_neg fun q => e q.2]

end Cert.RefRun

end
-- ==== Proof.RefShare.lean ====
/-
  The reference's share of the second exponential, read at a row and a slot.
-/
module

public import proofs.«01_k».proof.Proof.RefTerm
public import Idealize.ShloMosaic.Lib.Pointwise

@[expose] public section

set_option maxRecDepth 16384

noncomputable section

namespace Cert.RefRun

open Cert.ReferenceIdeal Cert.ReferenceIdeal.Gen Idealize.ShloMosaic Idealize.ShloMosaic.TcCoe Idealize.SL.Sem

/-- The kept share of a slot, its largest logit and its sum of exponentials written as folds over the slot's logits. -/
theorem keep_eq (l : FVec Ideal S16384x64x2 .f32) (i : Fin 16384) (k : Fin 64) :
    keep l (ix2 i k) = Ideal.div
      (Ideal.exp (l (ix3 i k 1) - max (Ideal.ofBits .f32 0xFF800000#32)
        (Finset.fold max (Ideal.ofBits .f32 0xFF800000#32) (fun e => l (ix3 i k e)) Finset.univ)))
      (∑ e, Ideal.exp (l (ix3 i k e) - max (Ideal.ofBits .f32 0xFF800000#32)
        (Finset.fold max (Ideal.ofBits .f32 0xFF800000#32) (fun e => l (ix3 i k e)) Finset.univ))) := by
  pointwise [keep, exps, both, top]

end Cert.RefRun

end
-- ==== Proof.RefValue.lean ====
/-
  The reference's two results on real inputs: row by row, the decisions and the keep values of the row's gaps.
-/
module

public import proofs.«01_k».proof.Proof.RefDecision
public import proofs.«01_k».proof.Proof.RefResult
public import proofs.«01_k».proof.Proof.RefShare
public import proofs.«01_k».proof.Proof.Slot

@[expose] public section

set_option maxRecDepth 16384

noncomputable section

namespace Cert.RefRun

open Cert.ReferenceIdeal Cert.ReferenceIdeal.Gen Idealize.ShloMosaic Idealize.ShloMosaic.TcCoe Idealize.SL.Sem

/-- The logits of a slot are its two scores. -/
theorem logits_apply (x : FVec Ideal S16384x64x64 .f32) (w1 : FVec Ideal S64x32 .f32) (b1 : FVec Ideal S32 .f32)
    (w2 : FVec Ideal S32x2 .f32) (b2 : FVec Ideal S2 .f32) (i : Fin 16384) (k : Fin 64) (e : Fin 2) :
    logits x w1 b1 w2 b2 (ix3 i k e) = Slot.score (fun d => x (ix3 i k d)) w1 b1 w2 b2 e := by
  pointwise [logits, hidden]
  rfl

/-- The first result in terms of the decisions: as they are, but one at slot 0 of a row whose decisions are all zero. -/
theorem changed_apply (d : FVec Ideal S16384x64 .f32) (i : Fin 16384) (k : Fin 64) :
    result d (firstZero d) (filled d (need d) (firstZero d)) (ix2 i k)
      = if (∀ j : Fin 64, d (ix2 i j) = (0 : EReal)) ∧ k = 0 then (1 : EReal) else d (ix2 i k) := by
  choose j hj h0 using firstZero_apply d
  rw [result_apply d (need d) (firstZero d) j hj i k]
  refine if_congr ?_ rfl rfl
  rw [need_apply]
  exact and_congr_right fun h => by rw [h0 i h]; exact eq_comm

/-- The kept share of a slot with real logits is the logistic function of their difference. -/
theorem keep_apply (l : FVec Ideal S16384x64x2 .f32) (i : Fin 16384) (k : Fin 64) (h0 : Slot.IsReal (l (ix3 i k 0)))
    (h1 : Slot.IsReal (l (ix3 i k 1))) : keep l (ix2 i k) = Ideal.logistic (l (ix3 i k 1) - l (ix3 i k 0)) := by
  rw [keep_eq, Fin.sum_univ_two, Slot.minusInfinity, Slot.larger fun e => l (ix3 i k e)]
  exact Slot.share_eq_logistic h0 h1 (h0.max h1)

variable {x : FVec Ideal S16384x64x64 .f32} {w1 : FVec Ideal S64x32 .f32} {b1 : FVec Ideal S32 .f32}
  {w2 : FVec Ideal S32x2 .f32} {b2 : FVec Ideal S2 .f32} (hx : ∀ i, Slot.IsReal (x i)) (h1 : ∀ i, Slot.IsReal (w1 i))
  (h2 : ∀ i, Slot.IsReal (b1 i)) (h3 : ∀ i, Slot.IsReal (w2 i)) (h4 : ∀ i, Slot.IsReal (b2 i))

include hx h1 h2 h3 h4

/-- On real inputs a decision is one where the slot's gap is positive. -/
theorem decision_gap (i : Fin 16384) (k : Fin 64) :
    decision (logits x w1 b1 w2 b2) (ix2 i k) = if 0 < Slot.gaps x w1 b1 w2 b2 i k then (1 : EReal) else 0 := by
  rw [decision_apply, logits_apply, logits_apply]
  exact if_congr (Slot.lt_iff_gap_pos (Slot.score_real (fun _ => hx _) h1 h2 h3 h4 0) (Slot.score_real (fun _ => hx _) h1 h2 h3 h4 1))
    rfl rfl

/-- The first result on real inputs. -/
theorem decisions_value (i : Fin 16384) (k : Fin 64) :
    result (decision (logits x w1 b1 w2 b2)) (firstZero (decision (logits x w1 b1 w2 b2)))
        (filled (decision (logits x w1 b1 w2 b2)) (need (decision (logits x w1 b1 w2 b2))) (firstZero (decision (logits x w1 b1 w2 b2))))
        (ix2 i k)
      = Slot.chosen (Slot.gaps x w1 b1 w2 b2 i) k := by
  classical
  have hz : ∀ j : Fin 64, decision (logits x w1 b1 w2 b2) (ix2 i j) = (0 : EReal) ↔ ¬ 0 < Slot.gaps x w1 b1 w2 b2 i j := fun j => by
    rw [decision_gap hx h1 h2 h3 h4]
    by_cases h : 0 < Slot.gaps x w1 b1 w2 b2 i j <;> simp [h]
  rw [changed_apply, decision_gap hx h1 h2 h3 h4]
  unfold Slot.chosen
  by_cases hp : 0 < Slot.gaps x w1 b1 w2 b2 i k
  · rw [if_pos hp, if_pos (Or.inl hp), ite_self]
  · rw [if_neg hp]
    exact if_congr ⟨fun h => Or.inr ⟨h.2, (forall_congr' hz).1 h.1⟩, fun h => ⟨(forall_congr' hz).2 (h.resolve_left hp).2, (h.resolve_left hp).1⟩⟩ rfl rfl

/-- The second result on real inputs. -/
theorem keeps_value (i : Fin 16384) (k : Fin 64) :
    keep (logits x w1 b1 w2 b2) (ix2 i k) = Ideal.logistic (Slot.gaps x w1 b1 w2 b2 i k) := by
  have hr : ∀ e, Slot.IsReal (logits x w1 b1 w2 b2 (ix3 i k e)) := fun e => by
    rw [logits_apply]
    exact Slot.score_real (fun _ => hx _) h1 h2 h3 h4 e
  rw [keep_apply _ i k (hr 0) (hr 1), logits_apply, logits_apply]
  rfl

end Cert.RefRun

end
-- ==== Proof.Inputs.lean ====
/-
  What the precondition says: every element of the five inputs is a real number.
-/
module

public import proofs.«01_k».proof.Proof.Gen.Pre_finite_inputs
public import proofs.«01_k».proof.Proof.Slot
public import Idealize.ShloMosaic.Lib.ReduceAll
public import Idealize.ShloMosaic.Lib.Pointwise

@[expose] public section

noncomputable section

namespace Cert.Inputs

open Idealize.ShloMosaic Cert.Pre_finite_inputs Cert.Pre_finite_inputs.Gen

/-- An extended real whose magnitude is less than infinity is a real number. -/
theorem real_of_abs_lt {a : EReal} (h : Ideal.cmp .olt (max a (-a)) (Ideal.ofBits .f32 0x7F800000#32) = 1#1) : Slot.IsReal a := by
  have ht : Ideal.ofBits .f32 0x7F800000#32 = ⊤ := by simp [Ideal.ofBits, Ideal.ieee]
  rw [ht] at h
  induction a with
  | bot => simp [Ideal.cmp] at h
  | coe r => exact ⟨r, rfl⟩
  | top => simp [Ideal.cmp] at h

/-- An array whose comparisons of magnitude with infinity are all one holds real numbers. -/
theorem all_real {s u v : Shape} {axes : List (Fin s.rank)} [Subsingleton v.Idx] (x : FVec Ideal s .f32) (dims : Fin u.rank → Fin s.rank)
    (hb : u.BroadcastsInDim s dims) (h : s.ReducesTo axes v) (hu : 0 < u.numel) (init : u.Idx → BitVec 1) (j : v.Idx)
    (e : Host.reduce IntOp.andi (cmpf .olt (Host.absf x) (broadcastInDim s dims hb (constant u .f32 0x7F800000#32))) init h hu j = 1#1)
    (i : s.Idx) : Slot.IsReal (x i) :=
  real_of_abs_lt (Host.reduce_andi_all _ _ _ _ _ e i)

/-- Where the precondition holds, all five inputs hold real numbers. -/
theorem real_of_finite (x : FVec Ideal S16384x64x64 .f32) (w1 : FVec Ideal S64x32 .f32) (b1 : FVec Ideal S32 .f32)
    (w2 : FVec Ideal S32x2 .f32) (b2 : FVec Ideal S2 .f32) (j : S_.Idx) (h : fn x w1 b1 w2 b2 j = 1#1) :
    (∀ i, Slot.IsReal (x i)) ∧ (∀ i, Slot.IsReal (w1 i)) ∧ (∀ i, Slot.IsReal (b1 i)) ∧ (∀ i, Slot.IsReal (w2 i))
      ∧ ∀ i, Slot.IsReal (b2 i) := by
  haveI : Subsingleton S_.Idx := ⟨fun a b => funext fun z => z.elim0⟩
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ _ _ _ _ _ h0, all_real _ _ _ _ _ _ _ h1, all_real _ _ _ _ _ _ _ h2, all_real _ _ _ _ _ _ _ h3,
    all_real _ _ _ _ _ _ _ h4⟩

end Cert.Inputs

end
-- ==== Proof.Equation.lean ====
/-
  The equation of the two programs: from the same real inputs, the reference's two result arrays are the kernel's.
-/
module

public import proofs.«01_k».proof.Proof.KernelArray
public import proofs.«01_k».proof.Proof.RefRead
public import proofs.«01_k».proof.Proof.RefValue
public import proofs.«01_k».proof.Proof.Inputs

@[expose] public section

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)
  (V : Valuation Cert.ReferenceIdeal.τ Cert.ReferenceIdeal.sig (Elt Ideal))

/-- Where the two programs' five inputs agree and are real, the reference's two results are the kernel's. -/
theorem results
    (e0 : V (Proc.devRef .tc Cert.ReferenceIdeal.main_arg0) = m ((c.tc : Thread Cert.KernelIdeal.nD Cert.KernelIdeal.τ).loc Cert.KernelIdeal.main_arg0))
    (e1 : V (Proc.devRef .tc Cert.ReferenceIdeal.main_arg1) = m ((c.tc : Thread Cert.KernelIdeal.nD Cert.KernelIdeal.τ).loc Cert.KernelIdeal.main_arg1))
    (e2 : V (Proc.devRef .tc Cert.ReferenceIdeal.main_arg2) = m ((c.tc : Thread Cert.KernelIdeal.nD Cert.KernelIdeal.τ).loc Cert.KernelIdeal.main_arg2))
    (e3 : V (Proc.devRef .tc Cert.ReferenceIdeal.main_arg3) = m ((c.tc : Thread Cert.KernelIdeal.nD Cert.KernelIdeal.τ).loc Cert.KernelIdeal.main_arg3))
    (e4 : V (Proc.devRef .tc Cert.ReferenceIdeal.main_arg4) = m ((c.tc : Thread Cert.KernelIdeal.nD Cert.KernelIdeal.τ).loc Cert.KernelIdeal.main_arg4))
    (hf : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    StableHlo.after Cert.RefRun.ops V (Proc.devRef .tc Cert.ReferenceIdeal.main_v51) = Cert.KernelArray.decisions m c
      ∧ StableHlo.after Cert.RefRun.ops V (Proc.devRef .tc Cert.ReferenceIdeal.main_v64) = Cert.KernelArray.keeps m c := by
  obtain ⟨hx, h1, h2, h3, h4⟩ := Cert.Inputs.real_of_finite _ _ _ _ _ (fun a => a.elim0) (congrFun hf _)
  have h := Cert.RefRun.after_ops (F := Ideal) V _ rfl
  rw [e0, e1, e2, e3, e4] at h
  refine ⟨h.1.trans (funext fun n => ?_), h.2.trans (funext fun n => ?_)⟩
  · obtain ⟨i, k, rfl⟩ : ∃ (i : Fin 16384) (k : Fin 64), n = ix2 i k := ⟨n 0, n 1, eq_ix2 n⟩
    exact Cert.RefRun.decisions_value hx h1 h2 h3 h4 i k
  · obtain ⟨i, k, rfl⟩ : ∃ (i : Fin 16384) (k : Fin 64), n = ix2 i k := ⟨n 0, n 1, eq_ix2 n⟩
    exact Cert.RefRun.keeps_value hx h1 h2 h3 h4 i k

end Cert.Equation

end
-- ==== Proof.lean ====
/-
  The certificate of the slot selector. The kernel scores every slot of every row with a two-layer network and leaves two
  arrays: which slots are chosen, at least one in every row, and the probability of keeping each.

  Proved here: the kernel and its idealization run to their ends, their inputs unchanged; so does the reference; and from
  the same finite inputs the kernel and the reference leave the same two arrays. Both arrays are functions of one number
  per slot, the gap between its two scores (`Slot`). `KernelBlock` reads what one block of the kernel computes,
  `KernelArray` what its two arrays hold after all blocks; `RefRun`, `RefTerm` and `RefRead` what the reference's buffers
  hold, and the modules under `RefValue` what that is at each row and slot; `Equation` joins the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite_inputs
public import proofs.«01_k».proof.Proof.RefRead
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs to its end, its inputs unchanged and its counters at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c =>
      have k := Cert.RefRun.ops_kept (F := Ideal) (Idealize.ShloMosaic.StableHlo.launchContents m c)
      ⟨(h c _).trans k.1, (h c _).trans k.2.1, (h c _).trans k.2.2.1, (h c _).trans k.2.2.2.1, (h c _).trans k.2.2.2.2⟩,
      sem_eq_zero_of_no_sems (by decide) r.2⟩)
    (Cert.RefRun.run (F := Ideal) m g)

/-- The kernel and the reference, from the same finite inputs, end with the same two arrays. -/
theorem algebraic : Cert.algebraic_KernelIdeal_ReferenceIdeal_pre_finite_inputs := by
  intro m g m' g' hpre hagree
  have hres := fun c => Cert.Equation.results m c (Idealize.ShloMosaic.StableHlo.launchContents m' c)
    (hagree c).1 (hagree c).2.1 (hagree c).2.2.1 (hagree c).2.2.2.1 (hagree c).2.2.2.2 (hpre c)
  refine ⟨fun c => Cert.KernelArray.decisions m c, fun c => Cert.KernelArray.keeps m c, ?_, ?_⟩
  · exact (θ_run Cert.KernelIdeal.defs _ _).mono (fun _ h c =>
      ⟨(h c).1.trans (Cert.KernelArray.final_decisions m c), (h c).2.1.trans (Cert.KernelArray.final_keeps m c), (h c).2.2⟩)
      (Cert.KernelIdeal.Value.run_blocks m g)
  · exact (θ_run Cert.ReferenceIdeal.defs _ _).mono (fun r h c =>
      have k := Cert.RefRun.ops_kept (F := Ideal) (Idealize.ShloMosaic.StableHlo.launchContents m' c)
      ⟨(h c _).trans (hres c).1, (h c _).trans (hres c).2, (h c _).trans k.1, (h c _).trans k.2.1, (h c _).trans k.2.2.1,
        (h c _).trans k.2.2.2.1, (h c _).trans k.2.2.2.2⟩)
      (Cert.RefRun.run (F := Ideal) m' g')

/-- Everything the certificate claims. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
